-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_with_labels [hPre_finite_with_labels : Cert.Pre_finite_with_labels.Facts] (m : (ℓ : Loc Cert.KernelIdeal.nD Cert.KernelIdeal.τ Cert.KernelIdeal.sig) → Buf (Elt Ideal) ℓ) : Prop :=
  ∀ c : Dev Cert.KernelIdeal.nD,
    (Cert.Pre_finite_with_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_with_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_with_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_with_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_with_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite_with_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_with_labels [hPre_finite_with_labels : Cert.Pre_finite_with_labels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_with_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_with_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_with_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_with_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_with_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite_with_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_with_labels [hKernelIdeal : Cert.KernelIdeal.Facts] [hPre_finite_with_labels : Cert.Pre_finite_with_labels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_with_labels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_with_labels [hReferenceIdeal : Cert.ReferenceIdeal.Facts] [hPre_finite_with_labels : Cert.Pre_finite_with_labels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_with_labels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_with_labels [hKernelIdeal : Cert.KernelIdeal.Facts] [hReferenceIdeal : Cert.ReferenceIdeal.Facts] [hPre_finite_with_labels : Cert.Pre_finite_with_labels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_with_labels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_with_labels : Cert.Pre_finite_with_labels.Facts),
    quiescent_Kernel (hKernel := hKernel)
    ∧ quiescent_KernelIdeal (hKernelIdeal := hKernelIdeal)
    ∧ quiescent_KernelIdeal_pre_finite_with_labels (hKernelIdeal := hKernelIdeal) (hPre_finite_with_labels := hPre_finite_with_labels)
    ∧ quiescent_ReferenceIdeal (hReferenceIdeal := hReferenceIdeal)
    ∧ quiescent_ReferenceIdeal_pre_finite_with_labels (hReferenceIdeal := hReferenceIdeal) (hPre_finite_with_labels := hPre_finite_with_labels)
    ∧ preserves_Kernel_KernelIdeal
    ∧ algebraic_KernelIdeal_ReferenceIdeal_pre_finite_with_labels (hKernelIdeal := hKernelIdeal) (hReferenceIdeal := hReferenceIdeal) (hPre_finite_with_labels := hPre_finite_with_labels)
-- ==== Pre_finite_with_labels.lean ====
abbrev S50000x512 : Shape := ⟨2, ![50000, 512]⟩
abbrev S50000 : Shape := ⟨1, ![50000]⟩
abbrev S1024 : Shape := ⟨1, ![1024]⟩
abbrev S64x512 : Shape := ⟨2, ![64, 512]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S50000x512 : S_.BroadcastsInDim S50000x512 (![] : Fin 0 → Fin S50000x512.rank)
  bcast_S_S1024 : S_.BroadcastsInDim S1024 (![] : Fin 0 → Fin S1024.rank)
  bcast_S_S64x512 : S_.BroadcastsInDim S64x512 (![] : Fin 0 → Fin S64x512.rank)
  bcast_S_S64 : S_.BroadcastsInDim S64 (![] : Fin 0 → Fin S64.rank)
  bcast_S_S2x64 : S_.BroadcastsInDim S2x64 (![] : Fin 0 → Fin S2x64.rank)
  bcast_S_S2 : S_.BroadcastsInDim S2 (![] : Fin 0 → Fin S2.rank)

variable [Facts]

def fn_part1 {F : FTy → Type} [FloatOps F] (main_v2 : IVec S50000x512 1) (main_v7 : IVec S1024 1) (main_v10 : IVec S64x512 1) (main_v13 : IVec S64 1) (main_v16 : IVec S2x64 1) (main_v17 : FVec F S2 .f32) : IVec S50000x512 1 × IVec S1024 1 × IVec S64x512 1 × IVec S64 1 × IVec S2x64 1 × IVec S2 1 :=
  let main_cst_4 : FVec F S_ .f32 := constant S_ .f32 0x7F800000#32
  let main_v18 : FVec F S2 .f32 := broadcastInDim S2 ![] bcast_S_S2 main_cst_4
  let main_v19 : IVec S2 1 := cmpf .olt main_v17 main_v18
  (main_v2, main_v7, main_v10, main_v13, main_v16, main_v19)

def fn {F : FTy → Type} [FloatOps F] (main_arg0 : FVec F S50000x512 .f32) (main_arg1 : IVec S50000 32) (main_arg2 : IVec S1024 32) (main_arg3 : FVec F S64x512 .f32) (main_arg4 : FVec F S64 .f32) (main_arg5 : FVec F S2x64 .f32) (main_arg6 : FVec F S2 .f32) : IVec S50000x512 1 × IVec S1024 1 × IVec S64x512 1 × IVec S64 1 × IVec S2x64 1 × IVec S2 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 32 := constantI S_ 32 0#32
  let main_v3 : IVec S1024 32 := broadcastInDim S1024 ![] bcast_S_S1024 main_c
  let main_v4 : IVec S1024 1 := cmpi .sge main_arg2 main_v3
  let main_c_0 : IVec S_ 32 := constantI S_ 32 2#32
  let main_v5 : IVec S1024 32 := broadcastInDim S1024 ![] bcast_S_S1024 main_c_0
  let main_v6 : IVec S1024 1 := cmpi .slt main_arg2 main_v5
  let main_v7 : IVec S1024 1 := andi main_v4 main_v6
  let main_v8 : FVec F S64x512 .f32 := Host.absf main_arg3
  let main_cst_1 : FVec F S_ .f32 := constant S_ .f32 0x7F800000#32
  let main_v9 : FVec F S64x512 .f32 := broadcastInDim S64x512 ![] bcast_S_S64x512 main_cst_1
  let main_v10 : IVec S64x512 1 := cmpf .olt main_v8 main_v9
  let main_v11 : FVec F S64 .f32 := Host.absf main_arg4
  let main_cst_2 : FVec F S_ .f32 := constant S_ .f32 0x7F800000#32
  let main_v12 : FVec F S64 .f32 := broadcastInDim S64 ![] bcast_S_S64 main_cst_2
  let main_v13 : IVec S64 1 := cmpf .olt main_v11 main_v12
  let main_v14 : FVec F S2x64 .f32 := Host.absf main_arg5
  let main_cst_3 : FVec F S_ .f32 := constant S_ .f32 0x7F800000#32
  let main_v15 : FVec F S2x64 .f32 := broadcastInDim S2x64 ![] bcast_S_S2x64 main_cst_3
  let main_v16 : IVec S2x64 1 := cmpf .olt main_v14 main_v15
  let main_v17 : FVec F S2 .f32 := Host.absf main_arg6
  fn_part1 (F := F) main_v2 main_v7 main_v10 main_v13 main_v16 main_v17
-- ==== Kernel.lean ====
abbrev S50000x512 : Shape := ⟨2, ![50000, 512]⟩
abbrev S50000 : Shape := ⟨1, ![50000]⟩
abbrev S1024 : Shape := ⟨1, ![1024]⟩
abbrev S64x512 : Shape := ⟨2, ![64, 512]⟩
abbrev S64 : Shape := ⟨1, ![64]⟩
abbrev S2x64 : Shape := ⟨2, ![2, 64]⟩
abbrev S2 : Shape := ⟨1, ![2]⟩
abbrev S25x1x2000 : Shape := ⟨3, ![25, 1, 2000]⟩
abbrev S1024x1 : Shape := ⟨2, ![1024, 1]⟩
abbrev S1x64 : Shape := ⟨2, ![1, 64]⟩
abbrev S1x2 : Shape := ⟨2, ![1, 2]⟩
abbrev S1x1 : Shape := ⟨2, ![1, 1]⟩
abbrev S1024x2 : Shape := ⟨2, ![1024, 2]⟩
abbrev S_ : Shape := ⟨0, ![]⟩
abbrev S2000x512 : Shape := ⟨2, ![2000, 512]⟩
abbrev S1x1x2000 : Shape := ⟨3, ![1, 1, 2000]⟩
abbrev S1024x65 : Shape := ⟨2, ![1024, 65]⟩
abbrev S2000 : Shape := ⟨1, ![2000]⟩
abbrev S2000x64 : Shape := ⟨2, ![2000, 64]⟩
abbrev S2000x1 : Shape := ⟨2, ![2000, 1]⟩
abbrev S2000x65 : Shape := ⟨2, ![2000, 65]⟩
abbrev S1024x2000 : Shape := ⟨2, ![1024, 2000]⟩
abbrev S1x2000 : Shape := ⟨2, ![1, 2000]⟩
abbrev S1024x64 : Shape := ⟨2, ![1024, 64]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 14
  | .vmem => 12
  | .smem => 0
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S1024, .i32⟩
  | .hbm, ⟨3, _⟩ => ⟨S64x512, .f32⟩
  | .hbm, ⟨4, _⟩ => ⟨S64, .f32⟩
  | .hbm, ⟨5, _⟩ => ⟨S2x64, .f32⟩
  | .hbm, ⟨6, _⟩ => ⟨S2, .f32⟩
  | .hbm, ⟨7, _⟩ => ⟨S25x1x2000, .i32⟩
  | .hbm, ⟨8, _⟩ => ⟨S1024x1, .i32⟩
  | .hbm, ⟨9, _⟩ => ⟨S1x64, .f32⟩
  | .hbm, ⟨10, _⟩ => ⟨S1x2, .f32⟩
  | .hbm, ⟨11, _⟩ => ⟨S1x1, .f32⟩
  | .hbm, ⟨12, _⟩ => ⟨S1024x2, .f32⟩
  | .hbm, ⟨13, _⟩ => ⟨S_, .f32⟩
  | .local _ .vmem, ⟨0, _⟩ => ⟨S2000x512, .f32⟩
  | .local _ .vmem, ⟨1, _⟩ => ⟨S2000x512, .f32⟩
  | .local _ .vmem, ⟨2, _⟩ => ⟨S1x1x2000, .i32⟩
  | .local _ .vmem, ⟨3, _⟩ => ⟨S1x1x2000, .i32⟩
  | .local _ .vmem, ⟨4, _⟩ => ⟨S1024x1, .i32⟩
  | .local _ .vmem, ⟨5, _⟩ => ⟨S64x512, .f32⟩
  | .local _ .vmem, ⟨6, _⟩ => ⟨S1x64, .f32⟩
  | .local _ .vmem, ⟨7, _⟩ => ⟨S2x64, .f32⟩
  | .local _ .vmem, ⟨8, _⟩ => ⟨S1x2, .f32⟩
  | .local _ .vmem, ⟨9, _⟩ => ⟨S1x1, .f32⟩
  | .local _ .vmem, ⟨10, _⟩ => ⟨S1024x2, .f32⟩
  | .local _ .vmem, ⟨11, _⟩ => ⟨S1024x65, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4_0 : Ref sig .tc := ⟨.hbm, 11, rfl⟩
abbrev main_v0_1 : Ref sig .tc := ⟨.hbm, 12, rfl⟩
abbrev main_v0_0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v22 : BitVec 1 := Scalar.cmpi .eq arg0 c24_i32
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S50000x512 : Shape := ⟨2, ![50000, 512]⟩
abbrev S50000 : Shape := ⟨1, ![50000]⟩
abbrev S1024 : Shape := ⟨1, ![1024]⟩
abbrev S64x512 : Shape := ⟨2, ![64, 512]⟩
abbrev S64 : Shape := ⟨1, ![64]⟩
abbrev S2x64 : Shape := ⟨2, ![2, 64]⟩
abbrev S2 : Shape := ⟨1, ![2]⟩
abbrev S_ : Shape := ⟨0, ![]⟩
abbrev S1024x512 : Shape := ⟨2, ![1024, 512]⟩
abbrev S50000x1 : Shape := ⟨2, ![50000, 1]⟩
abbrev S1024x1 : Shape := ⟨2, ![1024, 1]⟩
abbrev S512x64 : Shape := ⟨2, ![512, 64]⟩
abbrev S1024x64 : Shape := ⟨2, ![1024, 64]⟩
abbrev S1x64 : Shape := ⟨2, ![1, 64]⟩
abbrev S64x2 : Shape := ⟨2, ![64, 2]⟩
abbrev S1024x2 : Shape := ⟨2, ![1024, 2]⟩
abbrev S1x2 : Shape := ⟨2, ![1, 2]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 80
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S1024, .i32⟩
  | .hbm, ⟨3, _⟩ => ⟨S64x512, .f32⟩
  | .hbm, ⟨4, _⟩ => ⟨S64, .f32⟩
  | .hbm, ⟨5, _⟩ => ⟨S2x64, .f32⟩
  | .hbm, ⟨6, _⟩ => ⟨S2, .f32⟩
  | .hbm, ⟨7, _⟩ => ⟨S_, .f32⟩
  | .hbm, ⟨8, _⟩ => ⟨S1024x512, .f32⟩
  | .hbm, ⟨9, _⟩ => ⟨S50000x1, .i32⟩
  | .hbm, ⟨10, _⟩ => ⟨S1024x512, .f32⟩
  | .hbm, ⟨11, _⟩ => ⟨S_, .f32⟩
  | .hbm, ⟨12, _⟩ => ⟨S50000, .f32⟩
  | .hbm, ⟨13, _⟩ => ⟨S_, .f32⟩
  | .hbm, ⟨14, _⟩ => ⟨S1024, .f32⟩
  | .hbm, ⟨15, _⟩ => ⟨S50000x1, .i32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024x1, .f32⟩
  | .hbm, ⟨21, _⟩ => ⟨S1024x512, .f32⟩
  | .hbm, ⟨22, _⟩ => ⟨S1024x512, .f32⟩
  | .hbm, ⟨23, _⟩ => ⟨S512x64, .f32⟩
  | .hbm, ⟨24, _⟩ => ⟨S1024x64, .f32⟩
  | .hbm, ⟨25, _⟩ => ⟨S1x64, .f32⟩
  | .hbm, ⟨26, _⟩ => ⟨S1024x64, .f32⟩
  | .hbm, ⟨27, _⟩ => ⟨S1024x64, .f32⟩
  | .hbm, ⟨28, _⟩ => ⟨S_, .f32⟩
  | .hbm, ⟨29, _⟩ => ⟨S1024x64, .f32⟩
  | .hbm, ⟨30, _⟩ => ⟨S1024x64, .f32⟩
  | .hbm, ⟨31, _⟩ => ⟨S64x2, .f32⟩
  | .hbm, ⟨32, _⟩ => ⟨S1024x2, .f32⟩
  | .hbm, ⟨33, _⟩ => ⟨S1x2, .f32⟩
  | .hbm, ⟨34, _⟩ => ⟨S1024x2, .f32⟩
  | .hbm, ⟨35, _⟩ => ⟨S1024x2, .f32⟩
  | .hbm, ⟨36, _⟩ => ⟨S_, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1024x1, .f32⟩
  | .hbm, ⟨42, _⟩ => ⟨S1024x2, .f32⟩
  | .hbm, ⟨43, _⟩ => ⟨S1024x2, .f32⟩
  | .hbm, ⟨44, _⟩ => ⟨S1024x2, .f32⟩
  | .hbm, ⟨45, _⟩ => ⟨S_, .f32⟩
  | .hbm, ⟨46, _⟩ => ⟨S1024, .f32⟩
  | .hbm, ⟨47, _⟩ => ⟨S1024x1, .f32⟩
  | .hbm, ⟨48, _⟩ => ⟨S1024x1, .f32⟩
  | .hbm, ⟨49, _⟩ => ⟨S1024x2, .f32⟩
  | .hbm, ⟨50, _⟩ => ⟨S1024x2, .f32⟩
  | .hbm, ⟨51, _⟩ => ⟨S1024x1, .i32⟩
  | .hbm, ⟨52, _⟩ => ⟨S_, .i32⟩
  | .hbm, ⟨53, _⟩ => ⟨S1024x1, .i32⟩
  | .hbm, ⟨54, _⟩ => ⟨S1024x1, .i1⟩
  | .hbm, ⟨55, _⟩ => ⟨S_, .i32⟩
  | .hbm, ⟨56, _⟩ => ⟨S1024x1, .i32⟩
  | .hbm, ⟨57, _⟩ => ⟨S1024x1, .i32⟩
  | .hbm, ⟨58, _⟩ => ⟨S1024x1, .i32⟩
  | .hbm, ⟨59, _⟩ => ⟨S1024x1x1, .i32⟩
  | .hbm, ⟨60, _⟩ => ⟨S1, .i32⟩
  | .hbm, ⟨61, _⟩ => ⟨S_, .i32⟩
  | .hbm, ⟨62, _⟩ => ⟨S1024x1x1, .i32⟩
  | .hbm, ⟨63, _⟩ => ⟨S1024x1x1, .i1⟩
  | .hbm, ⟨64, _⟩ => ⟨S1x1x1, .i32⟩
  | .hbm, ⟨65, _⟩ => ⟨S1024x1x1, .i32⟩
  | .hbm, ⟨66, _⟩ => ⟨S1024x1x1, .i1⟩
  | .hbm, ⟨67, _⟩ => ⟨S1024x1x1, .i1⟩
  | .hbm, ⟨68, _⟩ => ⟨S_, .i1⟩
  | .hbm, ⟨69, _⟩ => ⟨S1024x1, .i1⟩
  | .hbm, ⟨70, _⟩ => ⟨S1024x1, .f32⟩
  | .hbm, ⟨71, _⟩ => ⟨S_, .f32⟩
  | .hbm, ⟨72, _⟩ => ⟨S1024x1, .f32⟩
  | .hbm, ⟨73, _⟩ => ⟨S1024x1, .f32⟩
  | .hbm, ⟨74, _⟩ => ⟨S1024, .f32⟩
  | .hbm, ⟨75, _⟩ => ⟨S1024, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call1_cst : Ref sig .tc := ⟨.hbm, 36, rfl⟩
abbrev main_call1_v0 : Ref sig .tc := ⟨.hbm, 37, rfl⟩
abbrev main_call1_cst_0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_cst_1 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_v23 : Ref sig .tc := ⟨.hbm, 50, rfl⟩
abbrev main_v24 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_cst : Ref sig .tc := ⟨.hbm, 71, rfl⟩
abbrev main_call2_v14 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_cst_3 : Ref sig .tc := ⟨.hbm, 76, rfl⟩
abbrev main_v28 : Ref sig .tc := ⟨.hbm, 77, rfl⟩
abbrev main_cst_4 : Ref sig .tc := ⟨.hbm, 78, rfl⟩
abbrev main_v29 : Ref sig .tc := ⟨.hbm, 79, rfl⟩

abbrev nD : Nat := 1
abbrev τ : Topo := Topo.v7x

variable {F : FTy → Type} [FloatOps F]
-- ==== Proof.Frames.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal
public import Idealize.ShloMosaic.Init

/-! # The three runs

Each program runs to its end from any memory, leaves its seven arguments as they were and returns every
semaphore counter to zero. For the kernel, as it is and read over the extended reals, this is its generated
frame; the reference is a straight line of host operations, whose run is computed, and it has no
semaphore. -/

@[expose] public section

noncomputable section

namespace Cert.Proof.Frames

open Idealize.ShloMosaic Idealize.SL.Sem

/-- The kernel as written runs, keeps its arguments and ends quiescent. -/
theorem kernel : Cert.quiescent_Kernel (hKernel := Cert.Kernel.Gen.facts) :=
  fun m ρ _ => Cert.Kernel.Gen.frame m ρ

/-- The kernel over the extended reals runs, keeps its arguments and ends quiescent. -/
theorem kernelIdeal : Cert.quiescent_KernelIdeal (hKernelIdeal := Cert.KernelIdeal.Gen.facts) :=
  fun m ρ _ => Cert.KernelIdeal.Gen.frame m ρ

/-- The reference over the extended reals runs and keeps its arguments; with no semaphore, every counter is
zero at its end. -/
theorem referenceIdeal :
    Cert.quiescent_ReferenceIdeal (hReferenceIdeal := Cert.ReferenceIdeal.Gen.facts) := by
  intro m ρ _
  exact (θ_run Cert.ReferenceIdeal.defs _ _).mono
    (fun r h => ⟨fun c => (h c).2.2, sem_eq_zero_of_no_sems (by decide) r.2⟩)
    (Cert.ReferenceIdeal.Value.run (F := Ideal) m ρ)

end Cert.Proof.Frames

end
-- ==== Proof.Body.lean ====
module

public import proofs.«01_k».proof.Proof.Gen.KernelIdeal.Frame
public import Idealize.ShloMosaic.Lib.Pipeline.Value
public import Idealize.ShloMosaic.Lib.Pipeline.ReadBack
public import Idealize.ShloMosaic.Lib.Tactic

/-! # What the body leaves at a grid point

At each point the kernel body updates the carried accumulator, and at the last point it also writes the two
results. These are the generated frame's named terms, opened: each is one of the body's own expressions at
the point's input blocks and at the accumulator the point before left. -/

@[expose] public section

set_option maxRecDepth 16384

noncomputable section

namespace Cert.Proof.Body

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- Two zero offsets are the zero function. -/
theorem off2 : (![0, 0] : Fin 2 → ℕ) = fun _ => 0 := funext fun a => by fin_cases a <;> rfl

/-- Three zero offsets are the zero function. -/
theorem off3 : (![0, 0, 0] : Fin 3 → ℕ) = fun _ => 0 := funext fun a => by fin_cases a <;> rfl

/-- Each of two zero offsets is zero. -/
theorem zero2 (a : Fin 2) : (![0, 0] : Fin 2 → ℕ) a = 0 := by rw [off2]

/-- The accumulator after point `n`. -/
abbrev acc (c : Dev nD) (n : ℕ) (h : n < cfg0.N) : Vec F S1024x65 .f32 := (outsAt0 m c n h).2.2

/-- At the first point the accumulator becomes the point's contribution added to the zero block. -/
theorem acc_first (c : Dev nD) (t : Fin cfg0.N) (h0 : t.val % 25 = 0) (h1 : ¬t.val % 25 = 24) :
    acc m c t.val t.isLt
      = k0_pay2 (F := F) (iblk m c 0 t) (iblk m c 1 t) (iblk m c 3 t) (k0_pay1 (F := F)) := by
  unfold acc
  rw [outsAt0_A m c t h0 h1]
  dsimp only
  unfold sout0_A_0
  rw [View.read_writes_junk_eq_canon]
  unfold kernelRun0_A
  dsimp only
  sl_unfold_words
  rw [View.canon_cons_unit_zero (S := S1024x65) off2, View.readCov_unit_zero (S := S1024x65) _ off2]
  simp only [View.readAt_eq_ld, (hs0_0 t).read_unread, (hs0_1 t).read_unread,
    (hs0_3 t).read_unread, View.ld_unit_zero (S := S2000x512) off2, View.ld_unit_zero (S := S1x1x2000) off3,
    View.ld_unit_zero (S := S64x512) off2, View.ld_unit_zero (S := S1024x65) off2]

/-- At a middle point it becomes the contribution added to what the point before left. -/
theorem acc_middle (c : Dev nD) (t : Fin cfg0.N) (h0 : ¬t.val % 25 = 0) (h1 : ¬t.val % 25 = 24) :
    acc m c t.val t.isLt
      = k0_pay2 (F := F) (iblk m c 0 t) (iblk m c 1 t) (iblk m c 3 t)
          (acc m c (t.val - 1) (Nat.lt_of_le_of_lt (Nat.sub_le _ _) t.isLt)) := by
  unfold acc
  rw [outsAt0_B m c t h0 h1]
  dsimp only
  unfold sout0_B_0
  rw [View.read_writes_junk_eq_canon]
  unfold kernelRun0_B
  dsimp only
  sl_unfold_words
  rw [View.canon_unit_zero (S := S1024x65) off2]
  simp only [View.readAt_eq_ld, (hs0_0 t).read_unread, (hs0_1 t).read_unread,
    (hs0_3 t).read_unread,
    (Memref.isWhole_whole cc0_scratch0).read_unread, View.ld_unit_zero (S := S2000x512) off2, View.ld_unit_zero (S := S1x1x2000) off3,
    View.ld_unit_zero (S := S64x512) off2, View.ld_unit_zero (S := S1024x65) off2]

/-- The columns of sums of an accumulator: all of it but the last column. -/
def sums (A : Vec F S1024x65 .f32) : Vec F S1024x64 .f32 :=
  View.ld A (Rect.unit (s := S1024x65) ![0, 0] S1024x64.size inb_S1024x65_S1024x64_0_0)

/-- The column of counts of an accumulator: its last column. -/
def counts (A : Vec F S1024x65 .f32) : Vec F S1024x1 .f32 :=
  View.ld A (Rect.unit (s := S1024x65) ![0, 64] S1024x1.size inb_S1024x65_S1024x1_0_64)

/-- The accumulator the last point reads back: what the point before left with the last contribution added. -/
abbrev accLast (c : Dev nD) (t : Fin cfg0.N) : Vec F S1024x65 .f32 :=
  k0_pay2 (F := F) (iblk m c 0 t) (iblk m c 1 t) (iblk m c 3 t)
    (acc m c (t.val - 1) (Nat.lt_of_le_of_lt (Nat.sub_le _ _) t.isLt))

/-- At the last point the predictions are the body's epilogue over the finished accumulator. -/
theorem preds_last (c : Dev nD) (t : Fin cfg0.N) (h0 : ¬t.val % 25 = 0) (h1 : t.val % 25 = 24) :
    (outsAt0 m c t.val t.isLt).2.1
      = k0_pay4 (F := F) (sums (accLast m c t)) (counts (accLast m c t)) (iblk m c 4 t) (iblk m c 5 t)
          (iblk m c 6 t) := by
  rw [outsAt0_C m c t h0 h1]
  dsimp only
  unfold out0_C_8
  rw [View.read_writes_junk_eq_canon]
  unfold kernelRun0_C
  dsimp only
  sl_unfold_words
  rw [View.canon_unit_zero (S := S1024x2) off2]
  rw [View.readCov_fill (s := S1024x65) _ _ _ _ _ zero2, View.readCov_fill (s := S1024x65) _ _ _ _ _ zero2]
  simp only [View.readAt_eq_ld, (hs0_0 t).read_unread, (hs0_1 t).read_unread, (hs0_2 t).read_unread,
    (hs0_3 t).read_unread, (hs0_4 t).read_unread, (hs0_5 t).read_unread, (hs0_6 t).read_unread,
    (Memref.isWhole_whole cc0_scratch0).read_unread, View.ld_unit_zero (S := S2000x512) off2,
    View.ld_unit_zero (S := S1x1x2000) off3, View.ld_unit_zero (S := S64x512) off2,
    View.ld_unit_zero (S := S1024x65) off2, View.ld_unit_zero (S := S1x64) off2,
    View.ld_unit_zero (S := S2x64) off2, View.ld_unit_zero (S := S1x2) off2,
    View.ld_unit_zero (S := S1024x1) off2]
  rfl

/-- At the last point the loss is the body's mean over the column of losses of those predictions. -/
theorem target_last (c : Dev nD) (t : Fin cfg0.N) (h0 : ¬t.val % 25 = 0) (h1 : t.val % 25 = 24) :
    (outsAt0 m c t.val t.isLt).1
      = k0_pay3 (F := F) (k0_pay5 (F := F) (sums (accLast m c t)) (counts (accLast m c t)) (iblk m c 4 t) (iblk m c 5 t)
          (iblk m c 6 t) (iblk m c 2 t)) := by
  rw [outsAt0_C m c t h0 h1]
  dsimp only
  unfold out0_C_7
  rw [View.read_writes_junk_eq_canon]
  unfold kernelRun0_C
  dsimp only
  sl_unfold_words
  rw [View.canon_unit_zero (S := S1x1) off2]
  rw [View.readCov_fill (s := S1024x65) _ _ _ _ _ zero2, View.readCov_fill (s := S1024x65) _ _ _ _ _ zero2]
  simp only [View.readAt_eq_ld, (hs0_0 t).read_unread, (hs0_1 t).read_unread, (hs0_2 t).read_unread,
    (hs0_3 t).read_unread, (hs0_4 t).read_unread, (hs0_5 t).read_unread, (hs0_6 t).read_unread,
    (Memref.isWhole_whole cc0_scratch0).read_unread, View.ld_unit_zero (S := S2000x512) off2,
    View.ld_unit_zero (S := S1x1x2000) off3, View.ld_unit_zero (S := S64x512) off2,
    View.ld_unit_zero (S := S1024x65) off2, View.ld_unit_zero (S := S1x64) off2,
    View.ld_unit_zero (S := S2x64) off2, View.ld_unit_zero (S := S1x2) off2,
    View.ld_unit_zero (S := S1024x1) off2]
  rfl

end Cert.Proof.Body

end
-- ==== Proof.Maths.lean ====
module

public import Idealize.ShloMosaic.PureOps.Ideal
public import Mathlib.Algebra.BigOperators.Ring.Finset

/-! # The equation, over real numbers

The kernel multiplies each node's features by the weights, sums the products of a graph's nodes and divides by their
number. The reference sums the features, divides, and multiplies by the weights. Over real numbers the two are one
value; so are the two ways of writing the log-softmax loss. Every statement here is about extended reals that are
real. -/

@[expose] public section

noncomputable section

namespace Cert.Proof.Maths

open Idealize.ShloMosaic

/-- The sum of reals, taken in the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The larger of two reals, taken in the extended reals. -/
theorem coe_max (a b : ℝ) : max (a : EReal) (b : EReal) = ((max a b : ℝ) : EReal) :=
  (EReal.coe_strictMono.monotone.map_max).symm

/-- The larger of two, as the row maximum from `⊥` finds it. -/
theorem fold_two (f : Fin 2 → EReal) : Finset.fold max ⊥ f Finset.univ = max (f 0) (f 1) := by
  rw [show (Finset.univ : Finset (Fin 2)) = {0, 1} from rfl, Finset.fold_insert (by decide), Finset.fold_singleton]
  simp

/-- A choice between a real and zero. -/
theorem coe_ite (p : Prop) [Decidable p] (a : ℝ) :
    (if p then (a : EReal) else 0) = ((if p then a else 0 : ℝ) : EReal) := by
  split_ifs <;> simp

/-- A number of nodes, or one where there are none: a real number that is not zero. -/
def size {N : Type} [Fintype N] (p : N → Prop) [DecidablePred p] : ℝ := max (∑ i : N, if p i then (1 : ℝ) else 0) 1

theorem size_ne_zero {N : Type} [Fintype N] (p : N → Prop) [DecidablePred p] : size p ≠ 0 :=
  (lt_of_lt_of_le one_pos (le_max_right _ _)).ne'

/-- The reference's number of nodes. -/
theorem size_ref {N : Type} [Fintype N] (p : N → Prop) [DecidablePred p] :
    max (∑ i : N, if p i then (1 : EReal) else 0) 1 = (size p : EReal) := by
  have h : ∀ i : N, (if p i then (1 : EReal) else 0) = ((if p i then (1 : ℝ) else 0 : ℝ) : EReal) := fun i => by
    split_ifs <;> simp
  simp only [h]
  rw [coe_sum, ← EReal.coe_one, coe_max]
  rfl

/-- The kernel's number of nodes: the same sum, of products with one. -/
theorem size_ker {N : Type} [Fintype N] (p : N → Prop) [DecidablePred p] :
    max (∑ i : N, (if p i then (1 : EReal) else 0) * 1) 1 = (size p : EReal) := by
  simp only [mul_one]
  exact size_ref p

/-- The hidden layer's value at a graph before its bias: the mean feature times the weights. -/
def hidden {N K : Type} [Fintype N] [Fintype K] (p : N → Prop) [DecidablePred p] (x : N → K → ℝ) (w : K → ℝ) : ℝ :=
  ∑ k : K, (∑ i : N, if p i then x i k else 0) * (1 / size p) * w k

/-- The reference computes it in that order. -/
theorem hidden_ref {N K : Type} [Fintype N] [Fintype K] (p : N → Prop) [DecidablePred p] (x : N → K → ℝ) (w : K → ℝ) :
    (∑ k : K, Ideal.div (∑ i : N, if p i then (x i k : EReal) else 0)
        (max (∑ i : N, if p i then (1 : EReal) else 0) 1) * (w k : EReal))
      = (hidden p x w : EReal) := by
  rw [size_ref]
  simp only [coe_ite, coe_sum, Ideal.div_coe (size_ne_zero p), ← EReal.coe_mul]
  rfl

/-- The kernel multiplies by the weights first, and reaches the same value. -/
theorem hidden_ker {N K : Type} [Fintype N] [Fintype K] (p : N → Prop) [DecidablePred p] (x : N → K → ℝ) (w : K → ℝ) :
    Ideal.div (∑ i : N, (if p i then (1 : EReal) else 0) * ∑ k : K, (x i k : EReal) * (w k : EReal))
        (max (∑ i : N, (if p i then (1 : EReal) else 0) * 1) 1)
      = (hidden p x w : EReal) := by
  have h : ∀ i : N, (if p i then (1 : EReal) else 0) = ((if p i then (1 : ℝ) else 0 : ℝ) : EReal) := fun i => by
    split_ifs <;> simp
  rw [size_ker]
  simp only [h, ← EReal.coe_mul, coe_sum, Ideal.div_coe (size_ne_zero p)]
  congr 1
  unfold hidden
  have e : ∀ i : N, (if p i then (1 : ℝ) else 0) * ∑ k : K, x i k * w k
      = ∑ k : K, (if p i then x i k else 0) * w k := fun i => by
    split_ifs <;> simp
  simp only [e]
  rw [Finset.sum_comm, Finset.sum_mul]
  refine Finset.sum_congr rfl fun k _ => ?_
  rw [← Finset.sum_mul]
  ring

/-- The output layer over real hidden values is real. -/
theorem output_real {J : Type} [Fintype J] (h b w : J → ℝ) (o : ℝ) :
    (∑ j : J, max ((h j : EReal) + (b j : EReal)) 0 * (w j : EReal)) + (o : EReal)
      = ((∑ j : J, max (h j + b j) 0 * w j + o : ℝ) : EReal) := by
  simp only [← EReal.coe_add, ← EReal.coe_zero, coe_max, ← EReal.coe_mul, coe_sum]

/-- The logarithm of the sum of two exponentials is real. -/
theorem log_real (a b : ℝ) :
    Ideal.log (Ideal.exp (a : EReal) + Ideal.exp (b : EReal)) = ((Real.log (Real.exp a + Real.exp b) : ℝ) : EReal) := by
  show Ideal.log (((Real.exp a : ℝ) : EReal) + ((Real.exp b : ℝ) : EReal)) = _
  rw [← EReal.coe_add]
  exact if_neg (not_le.mpr (add_pos (Real.exp_pos a) (Real.exp_pos b)))

/-- The loss of the kernel and of the reference: taking the largest and the logarithm off together or in turn. -/
theorem loss_eq (p q v : ℝ) :
    (0 : EReal) - ((v : EReal) - (max (p : EReal) (q : EReal)
        + Ideal.log (Ideal.exp ((p : EReal) - max (p : EReal) (q : EReal))
          + Ideal.exp ((q : EReal) - max (p : EReal) (q : EReal)))))
      = -((v : EReal) - max (p : EReal) (q : EReal)
        - Ideal.log (Ideal.exp ((p : EReal) - max (p : EReal) (q : EReal))
          + Ideal.exp ((q : EReal) - max (p : EReal) (q : EReal)))) := by
  simp only [coe_max, ← EReal.coe_sub, log_real, ← EReal.coe_add, ← EReal.coe_neg, ← EReal.coe_zero]
  congr 1
  ring

/-- An extended real whose absolute value is below `⊤` is real. -/
theorem real_of_abs_lt (x : EReal) (h : max x (-x) < ⊤) : ∃ r : ℝ, x = (r : EReal) := by
  induction x using EReal.rec with
  | bot => simp at h
  | coe r => exact ⟨r, rfl⟩
  | top => simp at h

end Cert.Proof.Maths

end
-- ==== Proof.Payload.lean ====
module

public import proofs.«01_k».proof.Proof.Body
public import proofs.«01_k».proof.Proof.Maths
public import Idealize.ShloMosaic.Lib.Pointwise
public import Idealize.ShloMosaic.PureOps.Ideal

/-! # What one block computes, at an index

The kernel's values at a grid point, over the extended reals, at one index. -/

@[expose] public section

set_option maxRecDepth 16384

noncomputable section

namespace Cert.Proof.Payload

open Cert.KernelIdeal Cert.KernelIdeal.Gen
open Idealize.ShloMosaic Idealize.ShloMosaic.TcCoe Idealize.SL.Sem
open Cert.Proof

/-- The one-hot entry: 1 where the node's word is graph `g`'s number, read signed, else 0. -/
theorem hot (g : Fin 1024) (b : BitVec 32) :
    (FloatOps.sitofp (F := Ideal) FTy.f32
        (BitVec.setWidth 32 (IntOp.cmpi CmpIPredicate.eq (BitVec.ofNat 32 g.val) b)) : EReal)
      = if b.toInt = (g.val : ℤ) then 1 else 0 := by
  have hg := g.isLt
  have e : (BitVec.ofNat 32 g.val).toInt = (g.val : ℤ) := by
    rw [BitVec.toInt_eq_toNat_of_lt (by rw [BitVec.toNat_ofNat]; omega), BitVec.toNat_ofNat]
    omega
  by_cases h : BitVec.ofNat 32 g.val = b
  · subst h
    rw [if_pos e]
    show (((BitVec.setWidth 32 (BitVec.ofBool (BitVec.ofNat 32 g.val == BitVec.ofNat 32 g.val))).toInt : ℝ) : EReal) = 1
    rw [beq_self_eq_true, show (BitVec.setWidth 32 (BitVec.ofBool true)).toInt = 1 from by decide]
    norm_num
  · rw [if_neg fun q => h (BitVec.eq_of_toInt_eq (e.trans q.symm))]
    show (((BitVec.setWidth 32 (BitVec.ofBool (BitVec.ofNat 32 g.val == b))).toInt : ℝ) : EReal) = 0
    rw [beq_eq_false_iff_ne.mpr h, show (BitVec.setWidth 32 (BitVec.ofBool false)).toInt = 0 from by decide]
    norm_num

/-- The value stored at the first point is zero before its addition. -/
theorem pay1 (g : Fin 1024) (j : Fin 65) : k0_pay1 (F := Ideal) (ix2 g j) = (0 : EReal) := by
  pointwise [k0_pay1]

/-- A feature column of the accumulator's new value: the old one plus, over the block's nodes of graph `g`, the
    node's product with row `j` of the weights. -/
theorem pay2_feature (X : Vec Ideal S2000x512 .f32) (B : Vec Ideal S1x1x2000 .i32) (W : Vec Ideal S64x512 .f32)
    (A : Vec Ideal S1024x65 .f32) (g : Fin 1024) (j : Fin 64) :
    k0_pay2 X B W A (ix2 g (⟨j.val, Nat.lt_succ_of_lt j.isLt⟩ : Fin 65))
      = A (ix2 g (⟨j.val, Nat.lt_succ_of_lt j.isLt⟩ : Fin 65))
        + ∑ r : Fin 2000, (if (B (ix3 0 0 r)).toInt = (g.val : ℤ) then (1 : EReal) else 0)
            * ∑ k : Fin 512, X (ix2 r k) * W (ix2 j k) := by
  have hj := j.isLt
  pointwise [k0_pay2]
  simp only [dif_pos hj, hot]

/-- The last column of the accumulator's new value: the old one plus the block's nodes of graph `g`, counted. -/
theorem pay2_count (X : Vec Ideal S2000x512 .f32) (B : Vec Ideal S1x1x2000 .i32) (W : Vec Ideal S64x512 .f32)
    (A : Vec Ideal S1024x65 .f32) (g : Fin 1024) :
    k0_pay2 X B W A (ix2 g (64 : Fin 65))
      = A (ix2 g (64 : Fin 65))
        + ∑ r : Fin 2000, (if (B (ix3 0 0 r)).toInt = (g.val : ℤ) then (1 : EReal) else 0) * 1 := by
  have h : k0_pay2 X B W A (ix2 g (64 : Fin 65)) = A (ix2 g (64 : Fin 65))
      + ∑ r : Fin 2000, (FloatOps.sitofp (F := Ideal) FTy.f32
        (BitVec.setWidth 32 (IntOp.cmpi CmpIPredicate.eq (BitVec.ofNat 32 g.val) (B (ix3 0 0 r)))) : EReal) * 1 := by
    pointwise [k0_pay2]
  rw [h]
  simp only [hot]

/-- The predictions at an index, from the finished sums and counts. -/
theorem pay4 (S : Vec Ideal S1024x64 .f32) (C : Vec Ideal S1024x1 .f32) (bh : Vec Ideal S1x64 .f32)
    (wo : Vec Ideal S2x64 .f32) (bo : Vec Ideal S1x2 .f32) (g : Fin 1024) (c : Fin 2) :
    k0_pay4 S C bh wo bo (ix2 g c)
      = ∑ j : Fin 64, max (Ideal.div (S (ix2 g j)) (max (C (ix2 g 0)) 1) + bh (ix2 0 j)) 0 * wo (ix2 c j)
        + bo (ix2 0 c) := by
  pointwise [k0_pay4]

/-- The loss of a graph, from its two predictions and its label's word. -/
def loss (p q : EReal) (w : BitVec 32) : EReal :=
  if w = 0#32 then 0 - (p - (max p q + Ideal.log (Ideal.exp (p - max p q) + Ideal.exp (q - max p q))))
  else 0 - (q - (max p q + Ideal.log (Ideal.exp (p - max p q) + Ideal.exp (q - max p q))))

/-- The column of losses at an index. -/
theorem pay5 (S : Vec Ideal S1024x64 .f32) (C : Vec Ideal S1024x1 .f32) (bh : Vec Ideal S1x64 .f32)
    (wo : Vec Ideal S2x64 .f32) (bo : Vec Ideal S1x2 .f32) (y : Vec Ideal S1024x1 .i32) (g : Fin 1024) :
    k0_pay5 S C bh wo bo y (ix2 g 0)
      = loss (k0_pay4 S C bh wo bo (ix2 g 0)) (k0_pay4 S C bh wo bo (ix2 g 1)) (y (ix2 g 0)) := by
  have hbot : Ideal.ofBits FTy.f32 4286578688#32 = (⊥ : EReal) := by simp [Ideal.ofBits, Ideal.ieee]
  unfold k0_pay5
  generalize k0_pay4 S C bh wo bo = P
  pointwise
  rw [hbot, Maths.fold_two, Fin.sum_univ_two]
  unfold loss
  by_cases h : y (ix2 g 0) = 0#32
  · rw [if_pos h, h]; rfl
  · rw [if_neg h]
    have e : IntOp.cmpi CmpIPredicate.eq (y (ix2 g 0)) 0#32 = 0#1 := by
      show BitVec.ofBool (y (ix2 g 0) == 0#32) = 0#1
      rw [beq_eq_false_iff_ne.mpr h]; rfl
    rw [e]; rfl

/-- The loss: the mean of the column. -/
theorem pay3 (L : FVec Ideal S1024x1 .f32) :
    k0_pay3 (F := Ideal) L (ix2 0 0) = Ideal.div (∑ g : Fin 1024, L (ix2 g 0)) (Ideal.ofBits FTy.f32 1149239296#32) := by
  pointwise [k0_pay3]
  simp only [Fin.sum_univ_one]

/-- The finished sums are the accumulator's first 64 columns. -/
theorem sums_at (A : Vec Ideal S1024x65 .f32) (g : Fin 1024) (j : Fin 64) :
    Body.sums A (ix2 g j) = A (ix2 g (⟨j.val, Nat.lt_succ_of_lt j.isLt⟩ : Fin 65)) := by
  pointwise [Body.sums]

/-- The finished counts are its last column. -/
theorem counts_at (A : Vec Ideal S1024x65 .f32) (g : Fin 1024) :
    Body.counts A (ix2 g 0) = A (ix2 g (64 : Fin 65)) := by
  pointwise [Body.counts]

end Cert.Proof.Payload

end
-- ==== Proof.Blocks.lean ====
module

public import proofs.«01_k».proof.Proof.Body
public import Idealize.ShloMosaic.Lib.Pointwise

/-! # What a grid point reads

Point `t` reads rows `2000 t … 2000 t + 1999` of the node features and of the graph numbers, and the whole of
every other argument (reshaped before the launch to have two axes). -/

@[expose] public section

set_option maxRecDepth 16384

noncomputable section

namespace Cert.Proof.Blocks

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The seven arguments as launched. -/
abbrev xA (c : Dev nD) : Vec F S50000x512 .f32 := m ((c.tc : Thread nD τ).loc main_arg0)
abbrev batchA (c : Dev nD) : Vec F S50000 .i32 := m ((c.tc : Thread nD τ).loc main_arg1)
abbrev yA (c : Dev nD) : Vec F S1024 .i32 := m ((c.tc : Thread nD τ).loc main_arg2)
abbrev whA (c : Dev nD) : Vec F S64x512 .f32 := m ((c.tc : Thread nD τ).loc main_arg3)
abbrev bhA (c : Dev nD) : Vec F S64 .f32 := m ((c.tc : Thread nD τ).loc main_arg4)
abbrev woA (c : Dev nD) : Vec F S2x64 .f32 := m ((c.tc : Thread nD τ).loc main_arg5)
abbrev boA (c : Dev nD) : Vec F S2 .f32 := m ((c.tc : Thread nD τ).loc main_arg6)

/-- The graph numbers reshaped to 25 blocks of one row. -/
theorem V_batch (c : Dev nD) :
    V m c main_call0_v0 = shapeCast S25x1x2000 (batchA m c) shapeCasts_S50000_S25x1x2000 := by
  unfold V V0
  simp only [hostOps0, List.flatten_cons, List.flatten_nil, List.append_nil]
  after_results
  rfl

theorem V_y (c : Dev nD) : V m c main_call0_v1 = shapeCast S1024x1 (yA m c) shapeCasts_S1024_S1024x1 := by
  unfold V V0
  simp only [hostOps0, List.flatten_cons, List.flatten_nil, List.append_nil]
  after_results
  rfl

theorem V_bh (c : Dev nD) : V m c main_call0_v2 = shapeCast S1x64 (bhA m c) shapeCasts_S64_S1x64 := by
  unfold V V0
  simp only [hostOps0, List.flatten_cons, List.flatten_nil, List.append_nil]
  after_results
  rfl

theorem V_bo (c : Dev nD) : V m c main_call0_v3 = shapeCast S1x2 (boA m c) shapeCasts_S2_S1x2 := by
  unfold V V0
  simp only [hostOps0, List.flatten_cons, List.flatten_nil, List.append_nil]
  after_results
  rfl

/-- Every point reads the labels whole. -/
theorem blk_y (c : Dev nD) (t : Fin cfg0.N) :
    iblk m c 2 t = shapeCast S1024x1 (yA m c) shapeCasts_S1024_S1024x1 := by
  have h : (fun a => win0_2.index t a * main_call0_v1.ty.shape.size a) = fun _ => 0 :=
    funext fun a => by fin_cases a <;> rfl
  exact (Memref.read_access_unit_zero (Elt F) main_call0_v1 h
    (fun a => by rw [congrFun h a]; simp) (V m c main_call0_v1)).trans (V_y m c)

theorem blk_wh (c : Dev nD) (t : Fin cfg0.N) : iblk m c 3 t = whA m c := by
  have h : (fun a => win0_3.index t a * main_arg3.ty.shape.size a) = fun _ => 0 :=
    funext fun a => by fin_cases a <;> rfl
  exact (Memref.read_access_unit_zero (Elt F) main_arg3 h
    (fun a => by rw [congrFun h a]; simp) (V m c main_arg3)).trans (V_main_arg3 m c)

theorem blk_bh (c : Dev nD) (t : Fin cfg0.N) :
    iblk m c 4 t = shapeCast S1x64 (bhA m c) shapeCasts_S64_S1x64 := by
  have h : (fun a => win0_4.index t a * main_call0_v2.ty.shape.size a) = fun _ => 0 :=
    funext fun a => by fin_cases a <;> rfl
  exact (Memref.read_access_unit_zero (Elt F) main_call0_v2 h
    (fun a => by rw [congrFun h a]; simp) (V m c main_call0_v2)).trans (V_bh m c)

theorem blk_wo (c : Dev nD) (t : Fin cfg0.N) : iblk m c 5 t = woA m c := by
  have h : (fun a => win0_5.index t a * main_arg5.ty.shape.size a) = fun _ => 0 :=
    funext fun a => by fin_cases a <;> rfl
  exact (Memref.read_access_unit_zero (Elt F) main_arg5 h
    (fun a => by rw [congrFun h a]; simp) (V m c main_arg5)).trans (V_main_arg5 m c)

theorem blk_bo (c : Dev nD) (t : Fin cfg0.N) :
    iblk m c 6 t = shapeCast S1x2 (boA m c) shapeCasts_S2_S1x2 := by
  have h : (fun a => win0_6.index t a * main_call0_v3.ty.shape.size a) = fun _ => 0 :=
    funext fun a => by fin_cases a <;> rfl
  exact (Memref.read_access_unit_zero (Elt F) main_call0_v3 h
    (fun a => by rw [congrFun h a]; simp) (V m c main_call0_v3)).trans (V_bo m c)

/-- The node that row `r` of block `n` is. -/
def node (n : ℕ) (h : n < cfg0.N) (r : Fin 2000) : Fin 50000 :=
  ⟨n * 2000 + r.val, by have := lt_of_lt_of_eq h N_0; have := r.isLt; omega⟩

theorem index0 : ∀ t : Fin cfg0.N, win0_0.index t (0 : Fin 2) = t.val ∧ win0_0.index t (1 : Fin 2) = 0 :=
  (by decide +kernel : ∀ t : Fin grid0.N, _)

theorem index1 : ∀ t : Fin cfg0.N, win0_1.index t (0 : Fin 3) = t.val ∧ win0_1.index t (1 : Fin 3) = 0
    ∧ win0_1.index t (2 : Fin 3) = 0 :=
  (by decide +kernel : ∀ t : Fin grid0.N, _)

/-- Row `r` of point `t`'s block of features is the node's row. -/
theorem blk_x (c : Dev nD) (t : Fin cfg0.N) (r : Fin 2000) (k : Fin 512) :
    iblk m c 0 t (ix2 r k) = xA m c (ix2 (node t.val t.isLt r) k) := by
  obtain ⟨e0, e1⟩ := index0 t
  show V m c main_arg0 (((cfg0.win 0).blk t).view.emb (ix2 r k)) = _
  rw [V_main_arg0]
  show xA m c _ = xA m c _
  congr 1
  funext a
  apply Fin.ext
  match a with
  | ⟨0, _⟩ => show win0_0.index t (0 : Fin 2) * 2000 + 1 * r.val = t.val * 2000 + r.val; rw [e0]; omega
  | ⟨1, _⟩ => show win0_0.index t (1 : Fin 2) * 512 + 1 * k.val = k.val; rw [e1]; omega

/-- Entry `r` of point `t`'s block of graph numbers is the node's. -/
theorem blk_batch (c : Dev nD) (t : Fin cfg0.N) (r : Fin 2000) :
    iblk m c 1 t (ix3 0 0 r) = batchA m c (ix1 (node t.val t.isLt r)) := by
  obtain ⟨e0, e1, e2⟩ := index1 t
  have hi : ((cfg0.win 1).blk t).view.emb (ix3 0 0 r)
      = (ix3 (⟨t.val, lt_of_lt_of_eq t.isLt N_0⟩ : Fin 25) (0 : Fin 1) r : S25x1x2000.Idx) := by
    funext a
    apply Fin.ext
    match a with
    | ⟨0, _⟩ => show win0_1.index t (0 : Fin 3) * 1 + 1 * 0 = t.val; rw [e0]; omega
    | ⟨1, _⟩ => show win0_1.index t (1 : Fin 3) * 1 + 1 * 0 = 0; rw [e1]
    | ⟨2, _⟩ => show win0_1.index t (2 : Fin 3) * 2000 + 1 * r.val = r.val; rw [e2]; omega
  show V m c main_call0_v0 (((cfg0.win 1).blk t).view.emb (ix3 0 0 r)) = _
  rw [hi, V_batch]
  refine shapeCast_apply _ _ _ _ ?_
  rw [Shape.rowMajor_val_one, Shape.rowMajor_val_three]
  show t.val * 2000 + r.val = (t.val * 1 + 0) * 2000 + r.val
  omega

end Cert.Proof.Blocks

end
-- ==== Proof.Run.lean ====
module

public import proofs.«01_k».proof.Proof.Body

/-! # What the kernel's run leaves in its results

Each result array is written back once, at the last point, whole; the scalar result is that one-element array
reshaped. -/

@[expose] public section

set_option maxRecDepth 16384

noncomputable section

namespace Cert.Proof.Run

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The last grid point. -/
def lastPt : Fin cfg0.N := ⟨24, lt_of_lt_of_eq (by decide) N_0.symm⟩

/-- What the last point leaves for the loss, a one-element array. -/
abbrev target (c : Dev nD) : Vec F S1x1 .f32 := (outsAt0 m c lastPt.val lastPt.isLt).1

/-- What the last point leaves for the predictions. -/
abbrev preds (c : Dev nD) : Vec F S1024x2 .f32 := (outsAt0 m c lastPt.val lastPt.isLt).2.1

/-- A point at which an output is written back is the last one. -/
theorem eq_lastPt (t : Fin cfg0.N) (h : t.val % 25 = 24) : t = lastPt := by
  have ht : t.val < 25 := lt_of_lt_of_eq t.isLt N_0
  exact Fin.ext (show t.val = 24 by omega)

theorem origin7 : (fun a => win0_7.index lastPt a * main_call0_v4_0.ty.shape.size a) = fun _ => 0 :=
  funext fun a => by fin_cases a <;> decide

theorem origin8 : (fun a => win0_8.index lastPt a * main_v0_1.ty.shape.size a) = fun _ => 0 :=
  funext fun a => by fin_cases a <;> decide

/-- The loss array ends holding what the last point left. -/
theorem final7 (c : Dev nD) : (dats m 0 c).arrAt 7 cfg0.N = target m c :=
  (dats m 0 c).arrAt_eq_of_cover 7 (target m c)
    (fun t hf => by
      obtain rfl := eq_lastPt t ((flush0_7 t).mp hf)
      show (cfg0.win 7).cut (grid0.coords lastPt) ((dats m 0 c).after 7 lastPt) = _
      rw [after0_7]
      exact (Memref.read_access_unit_zero (Elt F) main_call0_v4_0 origin7
        (fun a => by rw [congrFun origin7 a]; simp) (target m c)).symm)
    fun i => ⟨lastPt, (flush0_7 lastPt).mpr rfl, by
      show i ∈ ((View.whole main_call0_v4_0).slice (win0_7.rect lastPt)).set
      rw [View.set_slice_whole, Rect.mem_set_unit]
      intro a
      show (fun a => win0_7.index lastPt a * main_call0_v4_0.ty.shape.size a) a ≤ (i a : ℕ)
        ∧ (i a : ℕ) < (fun a => win0_7.index lastPt a * main_call0_v4_0.ty.shape.size a) a + S1x1.size a
      rw [origin7]
      exact ⟨Nat.zero_le _, by rw [Nat.zero_add]; exact (i a).isLt⟩⟩

/-- The predictions' array ends holding what the last point left. -/
theorem final8 (c : Dev nD) : (dats m 0 c).arrAt 8 cfg0.N = preds m c :=
  (dats m 0 c).arrAt_eq_of_cover 8 (preds m c)
    (fun t hf => by
      obtain rfl := eq_lastPt t ((flush0_8 t).mp hf)
      show (cfg0.win 8).cut (grid0.coords lastPt) ((dats m 0 c).after 8 lastPt) = _
      rw [after0_8]
      exact (Memref.read_access_unit_zero (Elt F) main_v0_1 origin8
        (fun a => by rw [congrFun origin8 a]; simp) (preds m c)).symm)
    fun i => ⟨lastPt, (flush0_8 lastPt).mpr rfl, by
      show i ∈ ((View.whole main_v0_1).slice (win0_8.rect lastPt)).set
      rw [View.set_slice_whole, Rect.mem_set_unit]
      intro a
      show (fun a => win0_8.index lastPt a * main_v0_1.ty.shape.size a) a ≤ (i a : ℕ)
        ∧ (i a : ℕ) < (fun a => win0_8.index lastPt a * main_v0_1.ty.shape.size a) a + S1024x2.size a
      rw [origin8]
      exact ⟨Nat.zero_le _, by rw [Nat.zero_add]; exact (i a).isLt⟩⟩

/-- The scalar result, after the reshape that ends the program, is the loss array's element. -/
theorem tail_value (c : Dev nD) :
    Pipeline.afterTail₀ cfgs (dats m) 0 (V0 m) [hostOps1] c main_v0_0
      = shapeCast S_ (target m c) shapeCasts_S1x1_S_ := by
  unfold Pipeline.afterTail₀
  simp only [hostOps1, List.flatten_cons, List.flatten_nil, List.append_nil, StableHlo.after_cons,
    StableHlo.after_nil]
  refine (StableHlo.reshape_result ..).trans ?_
  funext i
  show shapeCast S_ (Pipeline.withArrays spec0 c (V0 m c) (fun w => (dats m 0 c).arrAt w cfg0.N)
    (Proc.devRef .tc (Pipeline.arrRef spec0 7))) shapeCasts_S1x1_S_ i = _
  rw [Pipeline.withArrays_arr spec0 winFacts0.arr_inj c (V0 m c) _ 7, final7]

/-- The kernel's run at its values: the two results are what the last point left and the arguments are kept. -/
theorem run : θ_run defs (onTc (τ := τ) (main (F := F))) ⟨m, fun _ => 0, ρ⟩ fun r => ∀ c : Dev nD,
      r.2.mem ((c.tc : Thread nD τ).loc main_v0_0) = shapeCast S_ (target m c) shapeCasts_S1x1_S_
      ∧ r.2.mem ((c.tc : Thread nD τ).loc main_v0_1) = preds m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v0_0 (Pipeline.mem_restRefs_of main_v0_0 (by decide) (by decide))).trans (tail_value m c),
      ((h c).1 8).trans (final8 m c),
      ((h c).1 0).trans (((dats m 0 c).arrAt_in 0 rfl _).trans ((A_eq m c 0).trans (V_main_arg0 m c))),
      ((h c).2 main_arg1 (Pipeline.mem_restRefs_of main_arg1 (by decide) (by decide))).trans
        (W_main_arg1 m (dats m) c),
      ((h c).2 main_arg2 (Pipeline.mem_restRefs_of main_arg2 (by decide) (by decide))).trans
        (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans
        (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans
        (W_main_arg6 m (dats m) c)⟩) (run_main m ρ)

end Cert.Proof.Run

end
-- ==== Proof.KernelAt.lean ====
module

public import proofs.«01_k».proof.Proof.Payload
public import proofs.«01_k».proof.Proof.Blocks
public import proofs.«01_k».proof.Proof.Run

/-! # What the kernel leaves, at an index

The accumulator after point `n` holds, at graph `g` and column `j`, the sum over the first `2000 (n + 1)` nodes of
what a node adds there. The last point's sums run over all the nodes, and the two results are read from them. -/

@[expose] public section

set_option maxRecDepth 16384

noncomputable section

namespace Cert.Proof.KernelAt

open Cert.KernelIdeal Cert.KernelIdeal.Gen
open Idealize.ShloMosaic Idealize.ShloMosaic.TcCoe Idealize.SL.Sem
open Cert.Proof Cert.Proof.Body Cert.Proof.Blocks

variable (m : (ℓ : Loc nD τ sig) → Buf (Elt Ideal) ℓ)

/-- Node `i` belongs to graph `g`: its word, read signed, is the graph's number. -/
abbrev belongs (c : Dev nD) (g : Fin 1024) (i : Fin 50000) : Prop := (batchA m c (ix1 i)).toInt = (g.val : ℤ)

/-- The product of node `i`'s features with row `j` of the weights. -/
def product (c : Dev nD) (j : Fin 64) (i : Fin 50000) : EReal :=
  ∑ k : Fin 512, (xA m c (ix2 i k) : EReal) * (whA m c (ix2 j k) : EReal)

/-- What node `i` adds to the accumulator at graph `g` and column `j`: its product for the first 64 columns, one for
    the last, and nothing where it belongs to another graph. -/
def adds (c : Dev nD) (g : Fin 1024) (j : Fin 65) (i : Fin 50000) : EReal :=
  (if belongs m c g i then (1 : EReal) else 0) * if h : j.val < 64 then product m c ⟨j.val, h⟩ i else 1

/-- A function of the nodes as one of the naturals, zero past the last node. -/
def ext (f : Fin 50000 → EReal) (i : ℕ) : EReal := if h : i < 50000 then f ⟨i, h⟩ else 0

/-- A point's contribution is what its nodes add. -/
theorem point_adds (c : Dev nD) (t : Fin cfg0.N) (A : Vec Ideal S1024x65 .f32) (g : Fin 1024) (j : Fin 65) :
    (k0_pay2 (F := Ideal) (iblk m c 0 t) (iblk m c 1 t) (iblk m c 3 t) A (ix2 g j) : EReal)
      = A (ix2 g j) + ∑ r : Fin 2000, adds m c g j (node t.val t.isLt r) := by
  by_cases h : j.val < 64
  · refine (Payload.pay2_feature (iblk m c 0 t) (iblk m c 1 t) (iblk m c 3 t) A g ⟨j.val, h⟩).trans ?_
    refine congrArg (fun s => A (ix2 g j) + s) (Finset.sum_congr rfl fun r _ => ?_)
    unfold adds product
    rw [dif_pos h, blk_batch, blk_wh]
    simp only [blk_x]
  · obtain rfl : j = 64 := Fin.ext (by have := j.isLt; show j.val = 64; omega)
    refine (Payload.pay2_count (iblk m c 0 t) (iblk m c 1 t) (iblk m c 3 t) A g).trans ?_
    refine congrArg (fun s => A (ix2 g (64 : Fin 65)) + s) (Finset.sum_congr rfl fun r _ => ?_)
    unfold adds
    rw [dif_neg h, blk_batch]

/-- The sum over the nodes up to point `n`, and point `n`'s after them. -/
theorem extend (f : Fin 50000 → EReal) (n : ℕ) (h : n < cfg0.N) :
    ∑ i ∈ Finset.range (n * 2000), ext f i + ∑ r : Fin 2000, f (node n h r)
      = ∑ i ∈ Finset.range ((n + 1) * 2000), ext f i := by
  rw [Nat.succ_mul, Finset.sum_range_add]
  congr 1
  rw [← Fin.sum_univ_eq_sum_range (fun r => ext f (n * 2000 + r)) 2000]
  refine Finset.sum_congr rfl fun r _ => ?_
  exact (dif_pos (node n h r).isLt : ext f (n * 2000 + r.val) = _).symm

/-- The accumulator after a point before the last. -/
theorem acc_at (c : Dev nD) (g : Fin 1024) (j : Fin 65) :
    ∀ (n : ℕ) (h : n < cfg0.N), n < 24 →
      (acc m c n h (ix2 g j) : EReal) = ∑ i ∈ Finset.range ((n + 1) * 2000), ext (adds m c g j) i
  | 0, h, _ => by
    refine (congrFun (acc_first m c ⟨0, h⟩ rfl (by show ¬0 % 25 = 24; omega)) (ix2 g j)).trans ?_
    rw [point_adds, Payload.pay1, ← extend (adds m c g j) 0 h]
    simp
  | n + 1, h, hn => by
    refine (congrFun (acc_middle m c ⟨n + 1, h⟩ (by show ¬(n + 1) % 25 = 0; omega)
      (by show ¬(n + 1) % 25 = 24; omega)) (ix2 g j)).trans ?_
    rw [point_adds, ← extend (adds m c g j) (n + 1) h]
    exact congrArg (· + _) (acc_at c g j n (Nat.lt_of_succ_lt h) (by omega))

/-- The sum up to the last point is the sum over all the nodes. -/
theorem whole (f : Fin 50000 → EReal) (n : ℕ) (hn : n = 24) :
    ∑ i ∈ Finset.range ((n + 1) * 2000), ext f i = ∑ i : Fin 50000, f i := by
  have e : (n + 1) * 2000 = 50000 := by omega
  rw [e, ← Fin.sum_univ_eq_sum_range (ext f) 50000]
  exact Finset.sum_congr rfl fun i _ => dif_pos i.isLt

/-- The finished accumulator, at a point known to be the last. -/
theorem finished_of (c : Dev nD) (t : Fin cfg0.N) (ht : t.val = 24) (g : Fin 1024) (j : Fin 65) :
    (accLast m c t (ix2 g j) : EReal) = ∑ i : Fin 50000, adds m c g j i := by
  unfold accLast
  rw [point_adds, ← whole (adds m c g j) t.val ht, ← extend (adds m c g j) t.val t.isLt]
  refine congrArg (· + _) ?_
  refine (acc_at m c g j (t.val - 1) _ (by omega)).trans ?_
  rw [Nat.sub_add_cancel (by omega)]

/-- The finished accumulator: the sum over all the nodes. -/
theorem finished (c : Dev nD) (g : Fin 1024) (j : Fin 65) :
    (accLast m c Run.lastPt (ix2 g j) : EReal) = ∑ i : Fin 50000, adds m c g j i :=
  finished_of m c Run.lastPt rfl g j

/-- The finished sums and counts. -/
theorem sums_finished (c : Dev nD) (g : Fin 1024) (j : Fin 64) :
    (sums (accLast m c Run.lastPt) (ix2 g j) : EReal)
      = ∑ i : Fin 50000, (if belongs m c g i then (1 : EReal) else 0) * product m c j i := by
  rw [Payload.sums_at, finished]
  refine Finset.sum_congr rfl fun i _ => ?_
  unfold adds
  rw [dif_pos j.isLt]

theorem counts_finished (c : Dev nD) (g : Fin 1024) :
    (counts (accLast m c Run.lastPt) (ix2 g 0) : EReal)
      = ∑ i : Fin 50000, (if belongs m c g i then (1 : EReal) else 0) * 1 := by
  rw [Payload.counts_at, finished]
  refine Finset.sum_congr rfl fun i _ => ?_
  unfold adds
  rw [dif_neg (by decide)]

/-- The biases and the labels as the last point reads them. -/
theorem bh_at (c : Dev nD) (j : Fin 64) : iblk m c 4 Run.lastPt (ix2 0 j) = bhA m c (ix1 j) := by
  rw [blk_bh]
  pointwise
theorem bo_at (c : Dev nD) (o : Fin 2) : iblk m c 6 Run.lastPt (ix2 0 o) = boA m c (ix1 o) := by
  rw [blk_bo]
  pointwise
theorem y_at (c : Dev nD) (g : Fin 1024) : iblk m c 2 Run.lastPt (ix2 g 0) = yA m c (ix1 g) := by
  rw [blk_y]
  pointwise

/-- The kernel's predictions. -/
theorem preds_at (c : Dev nD) (g : Fin 1024) (o : Fin 2) :
    (Run.preds m c (ix2 g o) : EReal)
      = ∑ j : Fin 64, max (Ideal.div
            (∑ i : Fin 50000, (if belongs m c g i then (1 : EReal) else 0) * product m c j i)
            (max (∑ i : Fin 50000, (if belongs m c g i then (1 : EReal) else 0) * 1) 1)
          + (bhA m c (ix1 j) : EReal)) 0 * (woA m c (ix2 o j) : EReal) + (boA m c (ix1 o) : EReal) := by
  unfold Run.preds
  rw [preds_last m c Run.lastPt (by decide) (by decide), Payload.pay4]
  simp only [sums_finished, counts_finished, bh_at, bo_at, blk_wo]

/-- The kernel's loss, from its predictions. -/
theorem target_at (c : Dev nD) :
    (Run.target m c (ix2 0 0) : EReal)
      = Ideal.div (∑ g : Fin 1024, Payload.loss (Run.preds m c (ix2 g 0)) (Run.preds m c (ix2 g 1))
          (yA m c (ix1 g))) (Ideal.ofBits FTy.f32 1149239296#32) := by
  unfold Run.target Run.preds
  rw [target_last m c Run.lastPt (by decide) (by decide), preds_last m c Run.lastPt (by decide) (by decide),
    Payload.pay3]
  simp only [Payload.pay5, y_at]

end Cert.Proof.KernelAt

end
-- ==== Proof.Reference.lean ====
module

public import proofs.«01_k».proof.Proof.Gen.ReferenceIdeal.Run
public import proofs.«01_k».proof.Proof.Gen.ReferenceIdeal

/-! # The reference in stages

The two results of the reference's run are one composed term each. Here that term is cut into named stages: the
sum and the number of nodes of each graph, the predictions, the log-softmax, and the mean loss. -/

@[expose] public section

set_option maxRecDepth 16384

noncomputable section

namespace Cert.Proof.Reference

open Cert.ReferenceIdeal Cert.ReferenceIdeal.Gen
open Idealize.ShloMosaic Idealize.ShloMosaic.TcCoe Idealize.SL.Sem

variable {F : FTy → Type} [FloatOps F]

/-- The graph numbers as a column, the form in which a scatter reads them. -/
def column (b : IVec S50000 32) : IVec S50000x1 32 :=
  broadcastInDim S50000x1 ![0] bcast_S50000_S50000x1_0 b

/-- The sum of the features of each graph's nodes. -/
def pooled (x : FVec F S50000x512 .f32) (b : IVec S50000 32) : FVec F S1024x512 .f32 :=
  Host.scatterAdd scatter_S1024x512_S50000x1_S50000x512_1_0_0_1
    (broadcastInDim S1024x512 ![] bcast_S_S1024x512 (constant S_ .f32 0x00000000#32)) (column b) x

/-- The number of nodes of each graph. -/
def number (b : IVec S50000 32) : FVec F S1024 .f32 :=
  Host.scatterAdd scatter_S1024_S50000x1_S50000_n_0_0_1
    (broadcastInDim S1024 ![] bcast_S_S1024 (constant S_ .f32 0x00000000#32)) (column b)
    (broadcastInDim S50000 ![] bcast_S_S50000 (constant S_ .f32 0x3F800000#32))

/-- The predictions from the sums and the numbers: mean, hidden layer, output layer. -/
def head (s : FVec F S1024x512 .f32) (n : FVec F S1024 .f32) (Wh : FVec F S64x512 .f32) (bh : FVec F S64 .f32)
    (Wo : FVec F S2x64 .f32) (bo : FVec F S2 .f32) : FVec F S1024x2 .f32 :=
  addf (Host.dotGeneral dot_S1024x64_S64x2_S1024x2_1_0_0_1_n_n none
      (maximumf
        (addf (Host.dotGeneral dot_S1024x512_S512x64_S1024x64_1_0_0_1_n_n none
            (Host.divf s (broadcastInDim S1024x512 ![0, 1] bcast_S1024x1_S1024x512_0_1
              (broadcastInDim S1024x1 ![0] bcast_S1024_S1024x1_0
                (maximumf n (broadcastInDim S1024 ![] bcast_S_S1024 (constant S_ .f32 0x3F800000#32))))))
            (transpose S512x64 [1, 0] Wh transposes_S64x512_S512x64_1_0))
          (broadcastInDim S1024x64 ![0, 1] bcast_S1x64_S1024x64_0_1
            (broadcastInDim S1x64 ![1] bcast_S64_S1x64_1 bh)))
        (broadcastInDim S1024x64 ![] bcast_S_S1024x64 (constant S_ .f32 0x00000000#32)))
      (transpose S64x2 [1, 0] Wo transposes_S2x64_S64x2_1_0))
    (broadcastInDim S1024x2 ![0, 1] bcast_S1x2_S1024x2_0_1 (broadcastInDim S1x2 ![1] bcast_S2_S1x2_1 bo))

/-- The predictions of the reference. -/
def preds (x : FVec F S50000x512 .f32) (b : IVec S50000 32) (Wh : FVec F S64x512 .f32) (bh : FVec F S64 .f32)
    (Wo : FVec F S2x64 .f32) (bo : FVec F S2 .f32) : FVec F S1024x2 .f32 :=
  head (pooled x b) (number b) Wh bh Wo bo

/-- Predictions with their row's largest taken off. -/
def shifted (P : FVec F S1024x2 .f32) : FVec F S1024x2 .f32 :=
  subf P (broadcastInDim S1024x2 ![0, 1] bcast_S1024x1_S1024x2_0_1
    (broadcastInDim S1024x1 ![0] bcast_S1024_S1024x1_0
      (maximumf (broadcastInDim S1024 ![] bcast_S_S1024 (constant S_ .f32 0xFF800000#32))
        (Host.reduce FloatOps.maximumf P (constant S_ .f32 0xFF800000#32) reducesTo_S1024x2_S1024_d1 h_S_))))

/-- The logarithm of the softmax of each row. -/
def logSoftmax (P : FVec F S1024x2 .f32) : FVec F S1024x2 .f32 :=
  subf (shifted P) (broadcastInDim S1024x2 ![0, 1] bcast_S1024x1_S1024x2_0_1
    (Host.log (broadcastInDim S1024x1 ![0] bcast_S1024_S1024x1_0
      (Host.reduceAdd (Host.exp (shifted P)) (constant S_ .f32 0x00000000#32) reducesTo_S1024x2_S1024_d1 h_S_))))

/-- The labels as gather indices: a negative one counts from the end. -/
def labels (y : IVec S1024 32) : IVec S1024x1x1 32 :=
  shapeCast S1024x1x1
    (select (cmpi .slt (broadcastInDim S1024x1 ![0] bcast_S1024_S1024x1_0 y)
        (broadcastInDim S1024x1 ![] bcast_S_S1024x1 (constantI S_ 32 0#32)))
      (addi (broadcastInDim S1024x1 ![0] bcast_S1024_S1024x1_0 y)
        (broadcastInDim S1024x1 ![] bcast_S_S1024x1 (constantI S_ 32 2#32)))
      (broadcastInDim S1024x1 ![0] bcast_S1024_S1024x1_0 y))
    shapeCasts_S1024x1_S1024x1x1

/-- Whether each gather index names a class. -/
def inRange (i : IVec S1024x1x1 32) : IVec S1024x1 1 :=
  Host.reduce IntOp.andi
    (andi (cmpi .sge i (broadcastInDim S1024x1x1 ![] bcast_S_S1024x1x1 (constantI S_ 32 0#32)))
      (cmpi .sle i (broadcastInDim S1024x1x1 ![0, 1, 2] bcast_S1x1x1_S1024x1x1_0_1_2
        (broadcastInDim S1x1x1 ![2] bcast_S1_S1x1x1_2 (constantI S1 32 1#32)))))
    (constantI S_ 1 1#1) reducesTo_S1024x1x1_S1024x1_d2 h_S_

/-- The entry of each row that its label names. -/
def taken (L : FVec F S1024x2 .f32) (y : IVec S1024 32) : FVec F S1024x1 .f32 :=
  select (inRange (labels y))
    (Host.gather gather_S1024x2_S1024x1x1_S1024x1_n_1_0_0_1_2_11 L (labels y))
    (broadcastInDim S1024x1 ![] bcast_S_S1024x1 (constant S_ .f32 0x7FC00000#32))

/-- The mean over the graphs of minus a column. -/
def meanNeg (T : FVec F S1024x1 .f32) : FVec F S_ .f32 :=
  Host.divf
    (Host.reduceAdd (Host.negf (shapeCast S1024 T shapeCasts_S1024x1_S1024)) (constant S_ .f32 0x00000000#32)
      reducesTo_S1024_S_d0 h_S_)
    (constant S_ .f32 0x44800000#32)

/-- The loss of the reference, from its predictions and the labels. -/
def target (P : FVec F S1024x2 .f32) (y : IVec S1024 32) : FVec F S_ .f32 :=
  meanNeg (taken (logSoftmax P) y)

/-- The reference's run at those stages: the two results, and the arguments kept. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
        = target (preds (m ((c.tc : Thread nD τ).loc main_arg0)) (m ((c.tc : Thread nD τ).loc main_arg1))
            (m ((c.tc : Thread nD τ).loc main_arg3)) (m ((c.tc : Thread nD τ).loc main_arg4))
            (m ((c.tc : Thread nD τ).loc main_arg5)) (m ((c.tc : Thread nD τ).loc main_arg6)))
          (m ((c.tc : Thread nD τ).loc main_arg2))
      ∧ r.2.mem ((c.tc : Thread nD τ).loc main_v22)
        = preds (m ((c.tc : Thread nD τ).loc main_arg0)) (m ((c.tc : Thread nD τ).loc main_arg1))
            (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans rfl, (h c).2.1.trans rfl, (h c).2.2⟩)
    (Value.run (F := F) m ρ)

end Cert.Proof.Reference

end
-- ==== Proof.RefAt.lean ====
module

public import proofs.«01_k».proof.Proof.Reference
public import proofs.«01_k».proof.Proof.Maths
public import Idealize.ShloMosaic.Lib.Pointwise
public import Idealize.ShloMosaic.Lib.Routing.OpsPair
public import Idealize.ShloMosaic.PureOps.Ideal

/-! # The reference at an index

Each stage of the reference, over the extended reals, at one index. -/

@[expose] public section

set_option maxRecDepth 16384

noncomputable section

namespace Cert.Proof.RefAt

open Cert.ReferenceIdeal Cert.ReferenceIdeal.Gen
open Idealize.ShloMosaic Idealize.ShloMosaic.TcCoe Idealize.SL.Sem
open Cert.Proof.Reference

/-- The column of graph numbers at a node. -/
theorem column_at (b : IVec S50000 32) (n : Fin 50000) : column b (ix2 n 0) = b (ix1 n) := by
  pointwise [column]

/-- Where the features' scatter puts entry `(n, k)`: at row `b n`, column `k`. -/
theorem lands_row (b : IVec S50000 32) (n : Fin 50000) (k' : Fin 512) (g : Fin 1024) (k : Fin 512) :
    scatter_S1024x512_S50000x1_S50000x512_1_0_0_1.resultIdx? (ix2 n k') (column b) = some (ix2 g k)
      ↔ (b (ix1 n)).toInt = (g.val : ℤ) ∧ k' = k := by
  have hs0 : scatter_S1024x512_S50000x1_S50000x512_1_0_0_1.start (ix2 n k') (column b) 0 = (b (ix1 n)).toInt := by
    unfold ScatterDims.start
    rw [dif_pos (show (0 : Fin 2) ∈ scatter_S1024x512_S50000x1_S50000x512_1_0_0_1.scatterDimsToOperandDims from
      List.mem_singleton.mpr rfl)]
    have e : scatter_S1024x512_S50000x1_S50000x512_1_0_0_1.siIdx (ix2 n k')
        ⟨List.idxOf (0 : Fin 2) scatter_S1024x512_S50000x1_S50000x512_1_0_0_1.scatterDimsToOperandDims,
          List.idxOf_lt_length_iff.2 (List.mem_singleton.mpr rfl)⟩ = ix2 n 0 := by
      funext a
      refine Fin.ext ?_
      match a with
      | ⟨0, _⟩ => rfl
      | ⟨1, _⟩ => rfl
    rw [e, column_at]
  have hs1 : scatter_S1024x512_S50000x1_S50000x512_1_0_0_1.start (ix2 n k') (column b) 1 = 0 := by
    unfold ScatterDims.start
    exact dif_neg (show ¬ (1 : Fin 2) ∈ [(0 : Fin 2)] by decide)
  have hw0 : scatter_S1024x512_S50000x1_S50000x512_1_0_0_1.window (ix2 n k') 0 = 0 := by
    unfold ScatterDims.window
    exact dif_neg (show ¬ (0 : Fin 2) ∈ [(1 : Fin 2)] by decide)
  have hw1 : scatter_S1024x512_S50000x1_S50000x512_1_0_0_1.window (ix2 n k') 1 = k'.val := by
    unfold ScatterDims.window
    rw [dif_pos (show (1 : Fin 2) ∈ scatter_S1024x512_S50000x1_S50000x512_1_0_0_1.sKept from
      List.mem_singleton.mpr rfl)]
    rfl
  refine (Routing.resultIdx?_ix2 _ _ _ g k).trans ?_
  rw [hs0, hs1, hw0, hw1]
  constructor
  · rintro ⟨h, h'⟩
    exact ⟨by omega, Fin.ext (by omega)⟩
  · rintro ⟨h, rfl⟩
    exact ⟨by omega, by omega⟩

/-- Where the counting scatter puts entry `n`: at `b n`. -/
theorem lands_one (b : IVec S50000 32) (n : Fin 50000) (g : Fin 1024) :
    scatter_S1024_S50000x1_S50000_n_0_0_1.resultIdx? (ix1 n) (column b) = some (ix1 g)
      ↔ (b (ix1 n)).toInt = (g.val : ℤ) := by
  have hs0 : scatter_S1024_S50000x1_S50000_n_0_0_1.start (ix1 n) (column b) 0 = (b (ix1 n)).toInt := by
    unfold ScatterDims.start
    rw [dif_pos (show (0 : Fin 1) ∈ scatter_S1024_S50000x1_S50000_n_0_0_1.scatterDimsToOperandDims from
      List.mem_singleton.mpr rfl)]
    have e : scatter_S1024_S50000x1_S50000_n_0_0_1.siIdx (ix1 n)
        ⟨List.idxOf (0 : Fin 1) scatter_S1024_S50000x1_S50000_n_0_0_1.scatterDimsToOperandDims,
          List.idxOf_lt_length_iff.2 (List.mem_singleton.mpr rfl)⟩ = ix2 n 0 := by
      funext a
      refine Fin.ext ?_
      match a with
      | ⟨0, _⟩ => rfl
      | ⟨1, _⟩ => rfl
    rw [e, column_at]
  have hw0 : scatter_S1024_S50000x1_S50000_n_0_0_1.window (ix1 n) 0 = 0 := by
    unfold ScatterDims.window
    exact dif_neg (show ¬ (0 : Fin 1) ∈ ([] : List (Fin 1)) by decide)
  refine (Routing.resultIdx?_ix1 _ _ _ g).trans ?_
  rw [hs0, hw0]
  omega

/-- The sum of the features of graph `g` at feature `k`: over the nodes whose number is `g`. -/
theorem pooled_at (x : FVec Ideal S50000x512 .f32) (b : IVec S50000 32) (g : Fin 1024) (k : Fin 512) :
    pooled x b (ix2 g k) = ∑ n : Fin 50000, if (b (ix1 n)).toInt = (g.val : ℤ) then x (ix2 n k) else 0 := by
  have h0 : broadcastInDim S1024x512 ![] bcast_S_S1024x512 (constant (F := Ideal) S_ .f32 0x00000000#32) (ix2 g k)
      = (0 : EReal) := by pointwise
  unfold pooled
  show broadcastInDim S1024x512 ![] bcast_S_S1024x512 (constant (F := Ideal) S_ .f32 0x00000000#32) (ix2 g k)
    + ∑ j ∈ Finset.univ.filter (fun j =>
        scatter_S1024x512_S50000x1_S50000x512_1_0_0_1.resultIdx? j (column b) = some (ix2 g k)), x j = _
  rw [h0, zero_add, Finset.sum_filter, sum_idx2]
  refine Finset.sum_congr rfl fun n _ => ?_
  simp only [lands_row]
  by_cases h : (b (ix1 n)).toInt = (g.val : ℤ)
  · simp [h]
  · simp [h]

/-- The number of nodes of graph `g`. -/
theorem number_at (b : IVec S50000 32) (g : Fin 1024) :
    number (F := Ideal) b (ix1 g) = ∑ n : Fin 50000, if (b (ix1 n)).toInt = (g.val : ℤ) then (1 : EReal) else 0 := by
  have h0 : broadcastInDim S1024 ![] bcast_S_S1024 (constant (F := Ideal) S_ .f32 0x00000000#32) (ix1 g)
      = (0 : EReal) := by pointwise
  have h1 : ∀ n : Fin 50000,
      broadcastInDim S50000 ![] bcast_S_S50000 (constant (F := Ideal) S_ .f32 0x3F800000#32) (ix1 n)
        = (1 : EReal) := fun n => by pointwise
  unfold number
  show broadcastInDim S1024 ![] bcast_S_S1024 (constant (F := Ideal) S_ .f32 0x00000000#32) (ix1 g)
    + ∑ j ∈ Finset.univ.filter (fun j =>
        scatter_S1024_S50000x1_S50000_n_0_0_1.resultIdx? j (column b) = some (ix1 g)),
        broadcastInDim S50000 ![] bcast_S_S50000 (constant (F := Ideal) S_ .f32 0x3F800000#32) j = _
  rw [h0, zero_add, Finset.sum_filter, sum_idx1]
  refine Finset.sum_congr rfl fun n _ => ?_
  simp only [lands_one, h1]

/-- The predictions at an index, from the sums and the numbers. -/
theorem head_at (s : FVec Ideal S1024x512 .f32) (n : FVec Ideal S1024 .f32) (Wh : FVec Ideal S64x512 .f32)
    (bh : FVec Ideal S64 .f32) (Wo : FVec Ideal S2x64 .f32) (bo : FVec Ideal S2 .f32) (g : Fin 1024) (c : Fin 2) :
    head s n Wh bh Wo bo (ix2 g c)
      = ∑ j : Fin 64, max ((∑ k : Fin 512, Ideal.div (s (ix2 g k)) (max (n (ix1 g)) 1) * Wh (ix2 j k))
          + bh (ix1 j)) 0 * Wo (ix2 c j) + bo (ix1 c) := by
  pointwise [head]

/-- A row with its largest taken off. -/
theorem shifted_at (P : FVec Ideal S1024x2 .f32) (g : Fin 1024) (c : Fin 2) :
    shifted P (ix2 g c) = P (ix2 g c) - max (P (ix2 g 0)) (P (ix2 g 1)) := by
  have hbot : Ideal.ofBits FTy.f32 4286578688#32 = (⊥ : EReal) := by simp [Ideal.ofBits, Ideal.ieee]
  pointwise [shifted]
  rw [hbot, Maths.fold_two]
  simp

/-- The log-softmax at an index. -/
theorem logSoftmax_at (P : FVec Ideal S1024x2 .f32) (g : Fin 1024) (c : Fin 2) :
    logSoftmax P (ix2 g c) = P (ix2 g c) - max (P (ix2 g 0)) (P (ix2 g 1))
      - Ideal.log (Ideal.exp (P (ix2 g 0) - max (P (ix2 g 0)) (P (ix2 g 1)))
        + Ideal.exp (P (ix2 g 1) - max (P (ix2 g 0)) (P (ix2 g 1)))) := by
  have h : logSoftmax P (ix2 g c)
      = shifted P (ix2 g c) - Ideal.log (∑ x : Fin 2, Ideal.exp (shifted P (ix2 g x))) := by
    unfold logSoftmax
    generalize shifted P = Q
    pointwise
  rw [h, Fin.sum_univ_two]
  simp only [shifted_at]

/-- A label that names a class is its own gather index. -/
theorem labels_at (y : IVec S1024 32) (g : Fin 1024) (h : y (ix1 g) = 0#32 ∨ y (ix1 g) = 1#32) :
    labels y (ix3 g 0 0) = y (ix1 g) := by
  have e : labels y (ix3 g 0 0)
      = Scalar.select (IntOp.cmpi CmpIPredicate.slt (y (ix1 g)) 0#32) (IntOp.addi (y (ix1 g)) 2#32) (y (ix1 g)) := by
    pointwise [labels]
  rw [e]
  rcases h with h | h <;> rw [h] <;> rfl

/-- A gather index that names a class is in range. -/
theorem inRange_at (i : IVec S1024x1x1 32) (g : Fin 1024) (h : i (ix3 g 0 0) = 0#32 ∨ i (ix3 g 0 0) = 1#32) :
    inRange i (ix2 g 0) = 1#1 := by
  have e : inRange i (ix2 g 0) = Finset.fold IntOp.andi (1#1)
      (fun x : Fin 1 => IntOp.andi (IntOp.cmpi CmpIPredicate.sge (i (ix3 g 0 x)) 0#32)
          (IntOp.cmpi CmpIPredicate.sle (i (ix3 g 0 x)) 1#32)) Finset.univ := by
    pointwise [inRange]
  rw [e, show (Finset.univ : Finset (Fin 1)) = {0} from rfl, Finset.fold_singleton]
  rcases h with h | h <;> rw [h] <;> rfl

/-- The gather at graph `g`: row `g`, at the column its index names, the index clamped into the two columns. -/
theorem gather_at (L : FVec Ideal S1024x2 .f32) (i : IVec S1024x1x1 32) (g : Fin 1024) :
    Host.gather gather_S1024x2_S1024x1x1_S1024x1_n_1_0_0_1_2_11 L i (ix2 g 0)
      = L (ix2 g ⟨min (i (ix3 g 0 0)).toInt.toNat 1, by omega⟩) := by
  unfold Host.gather
  congr 1
  funext a
  refine Fin.ext ?_
  show gather_S1024x2_S1024x1x1_S1024x1_n_1_0_0_1_2_11.start (ix2 g 0) i a
      + gather_S1024x2_S1024x1x1_S1024x1_n_1_0_0_1_2_11.batchCoord (ix2 g 0) a
      + gather_S1024x2_S1024x1x1_S1024x1_n_1_0_0_1_2_11.offCoord (ix2 g 0) a = _
  have two : a = 0 ∨ a = 1 := by
    match a with
    | ⟨0, _⟩ => exact .inl rfl
    | ⟨1, _⟩ => exact .inr rfl
  rcases two with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S1024x2_S1024x1x1_S1024x1_n_1_0_0_1_2_11.operandBatchingDims from
      List.mem_singleton.mpr rfl)]
    rfl
  · rw [GatherDims.batchCoord_eq_zero _ _ _ (show ¬ (1 : Fin 2) ∈ [(0 : Fin 2)] by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x2_S1024x1x1_S1024x1_n_1_0_0_1_2_11.startIndexMap from
      List.mem_singleton.mpr rfl)]
    have e : gather_S1024x2_S1024x1x1_S1024x1_n_1_0_0_1_2_11.siIdx (ix2 g 0)
        ⟨List.idxOf (1 : Fin 2) gather_S1024x2_S1024x1x1_S1024x1_n_1_0_0_1_2_11.startIndexMap,
          List.idxOf_lt_length_iff.2 (List.mem_singleton.mpr rfl)⟩ = ix3 g 0 0 := by
      funext b
      refine Fin.ext ?_
      match b with
      | ⟨0, _⟩ => rfl
      | ⟨1, _⟩ => rfl
      | ⟨2, _⟩ => rfl
    exact congrArg (fun q => min (i q).toInt.toNat 1) e

/-- The entry a label names: column 0 for label 0, column 1 for label 1. -/
theorem taken_at (L : FVec Ideal S1024x2 .f32) (y : IVec S1024 32) (g : Fin 1024)
    (h : y (ix1 g) = 0#32 ∨ y (ix1 g) = 1#32) :
    taken L y (ix2 g 0) = if y (ix1 g) = 0#32 then L (ix2 g 0) else L (ix2 g 1) := by
  have e : taken L y (ix2 g 0) = Scalar.select (inRange (labels y) (ix2 g 0))
      (Host.gather gather_S1024x2_S1024x1x1_S1024x1_n_1_0_0_1_2_11 L (labels y) (ix2 g 0))
      (Ideal.ofBits FTy.f32 2143289344#32) := by
    pointwise [taken]
  have hl := labels_at y g h
  rw [e, inRange_at _ g (by rw [hl]; exact h), gather_at]
  show L _ = _
  simp only [hl]
  rcases h with h | h
  · rw [if_pos h]
    refine congrArg (fun q => L (ix2 g q)) (Fin.ext ?_)
    show min (y (ix1 g)).toInt.toNat 1 = 0
    rw [h]; rfl
  · rw [if_neg (by rw [h]; decide)]
    refine congrArg (fun q => L (ix2 g q)) (Fin.ext ?_)
    show min (y (ix1 g)).toInt.toNat 1 = 1
    rw [h]; rfl

/-- The mean of minus a column. -/
theorem meanNeg_at (T : FVec Ideal S1024x1 .f32) :
    meanNeg T ix0 = Ideal.div (∑ g : Fin 1024, -T (ix2 g 0)) (Ideal.ofBits FTy.f32 1149239296#32) := by
  pointwise [meanNeg]

end Cert.Proof.RefAt

end
-- ==== Proof.Finite.lean ====
module

public import proofs.«01_k».proof.Pre_finite_with_labels
public import proofs.«01_k».proof.Proof.Maths
public import Idealize.ShloMosaic.Lib.Pointwise
public import Idealize.ShloMosaic.Lib.WordCmp

/-! # The precondition

What the precondition says of the arguments: every float but the graph numbers' is real, and every label is 0 or 1. -/

@[expose] public section

set_option maxRecDepth 16384

noncomputable section

namespace Cert.Proof.Finite

open Cert.Pre_finite_with_labels
open Idealize.ShloMosaic

/-- A float that passes the test is real. -/
theorem real_of_test (x : EReal)
    (h : BitVec.ofBool (decide (max x (-x) < Ideal.ofBits FTy.f32 2139095040#32)) = 1#1) :
    ∃ r : ℝ, x = (r : EReal) := by
  have htop : Ideal.ofBits FTy.f32 2139095040#32 = (⊤ : EReal) := by simp [Ideal.ofBits, Ideal.ieee]
  rw [htop, WordCmp.ofBool_decide_eq_one_iff] at h
  exact Maths.real_of_abs_lt x h

/-- A word that passes the test is 0 or 1. -/
theorem label_of_test (w : BitVec 32)
    (h : IntOp.andi (IntOp.cmpi CmpIPredicate.sge w 0#32) (IntOp.cmpi CmpIPredicate.slt w 2#32) = 1#1) :
    w = 0#32 ∨ w = 1#32 := by
  rw [WordCmp.andi_sge_zero_slt_ofNat (k := 2) (by decide), WordCmp.ofBool_decide_eq_one_iff] at h
  rcases (by omega : w.toNat = 0 ∨ w.toNat = 1) with e | e
  · exact .inl (BitVec.eq_of_toNat_eq e)
  · exact .inr (BitVec.eq_of_toNat_eq e)

variable [Facts] (x : FVec Ideal S50000x512 .f32) (b : IVec S50000 32) (y : IVec S1024 32)
  (wh : FVec Ideal S64x512 .f32) (bh : FVec Ideal S64 .f32) (wo : FVec Ideal S2x64 .f32) (bo : FVec Ideal S2 .f32)

/-- The features are real. -/
theorem x_real (h : (fn (F := Ideal) x b y wh bh wo bo).1 = fun _ => 1#1) (n : Fin 50000) (k : Fin 512) :
    ∃ r : ℝ, x (ix2 n k) = (r : EReal) := by
  have e := congrFun h (ix2 n k)
  revert e
  pointwise [fn, fn_part1]
  exact real_of_test _

/-- The labels are 0 or 1. -/
theorem y_label (h : (fn (F := Ideal) x b y wh bh wo bo).2.1 = fun _ => 1#1) (g : Fin 1024) :
    y (ix1 g) = 0#32 ∨ y (ix1 g) = 1#32 := by
  have e := congrFun h (ix1 g)
  revert e
  pointwise [fn, fn_part1]
  exact label_of_test _

/-- The hidden layer's weights are real. -/
theorem wh_real (h : (fn (F := Ideal) x b y wh bh wo bo).2.2.1 = fun _ => 1#1) (j : Fin 64) (k : Fin 512) :
    ∃ r : ℝ, wh (ix2 j k) = (r : EReal) := by
  have e := congrFun h (ix2 j k)
  revert e
  pointwise [fn, fn_part1]
  exact real_of_test _

/-- The hidden layer's bias is real. -/
theorem bh_real (h : (fn (F := Ideal) x b y wh bh wo bo).2.2.2.1 = fun _ => 1#1) (j : Fin 64) :
    ∃ r : ℝ, bh (ix1 j) = (r : EReal) := by
  have e := congrFun h (ix1 j)
  revert e
  pointwise [fn, fn_part1]
  exact real_of_test _

/-- The output layer's weights are real. -/
theorem wo_real (h : (fn (F := Ideal) x b y wh bh wo bo).2.2.2.2.1 = fun _ => 1#1) (o : Fin 2) (j : Fin 64) :
    ∃ r : ℝ, wo (ix2 o j) = (r : EReal) := by
  have e := congrFun h (ix2 o j)
  revert e
  pointwise [fn, fn_part1]
  exact real_of_test _

/-- The output layer's bias is real. -/
theorem bo_real (h : (fn (F := Ideal) x b y wh bh wo bo).2.2.2.2.2 = fun _ => 1#1) (o : Fin 2) :
    ∃ r : ℝ, bo (ix1 o) = (r : EReal) := by
  have e := congrFun h (ix1 o)
  revert e
  pointwise [fn, fn_part1]
  exact real_of_test _

end Cert.Proof.Finite

end
-- ==== Proof.Equation.lean ====
module

public import proofs.«01_k».proof.Proof.KernelAt
public import proofs.«01_k».proof.Proof.RefAt
public import proofs.«01_k».proof.Proof.Finite
public import proofs.«01_k».proof.Proof.Maths

/-! # The kernel's results are the reference's

Under the precondition, both results of the kernel's run are the reference's stages at the kernel's arguments. -/

@[expose] public section

set_option maxRecDepth 16384

noncomputable section

namespace Cert.Proof.Equation

open Cert.KernelIdeal Cert.KernelIdeal.Gen
open Idealize.ShloMosaic Idealize.ShloMosaic.TcCoe Idealize.SL.Sem
open Cert.Proof Cert.Proof.Blocks

variable (m : (ℓ : Loc nD τ sig) → Buf (Elt Ideal) ℓ)

/-- The arguments of device `c` as the precondition leaves them: real floats, and labels 0 or 1. -/
structure Good (c : Dev nD) : Prop where
  x : ∀ i k, ∃ r : ℝ, (xA m c (ix2 i k) : EReal) = (r : EReal)
  y : ∀ g, yA m c (ix1 g) = 0#32 ∨ yA m c (ix1 g) = 1#32
  wh : ∀ j k, ∃ r : ℝ, (whA m c (ix2 j k) : EReal) = (r : EReal)
  bh : ∀ j, ∃ r : ℝ, (bhA m c (ix1 j) : EReal) = (r : EReal)
  wo : ∀ o j, ∃ r : ℝ, (woA m c (ix2 o j) : EReal) = (r : EReal)
  bo : ∀ o, ∃ r : ℝ, (boA m c (ix1 o) : EReal) = (r : EReal)

/-- The reference's predictions at the kernel's arguments. -/
def refPreds (c : Dev nD) : FVec Ideal S1024x2 .f32 :=
  Reference.preds (xA m c) (batchA m c) (whA m c) (bhA m c) (woA m c) (boA m c)

/-- The reference's loss at the kernel's arguments. -/
def refTarget (c : Dev nD) : FVec Ideal S_ .f32 := Reference.target (refPreds m c) (yA m c)

/-- The reference's predictions at an index. -/
theorem refPreds_at (c : Dev nD) (g : Fin 1024) (o : Fin 2) :
    (refPreds m c (ix2 g o) : EReal)
      = ∑ j : Fin 64, max ((∑ k : Fin 512, Ideal.div
            (∑ i : Fin 50000, if KernelAt.belongs m c g i then (xA m c (ix2 i k) : EReal) else 0)
            (max (∑ i : Fin 50000, if KernelAt.belongs m c g i then (1 : EReal) else 0) 1)
              * (whA m c (ix2 j k) : EReal)) + (bhA m c (ix1 j) : EReal)) 0 * (woA m c (ix2 o j) : EReal)
        + (boA m c (ix1 o) : EReal) := by
  unfold refPreds Reference.preds
  refine (RefAt.head_at _ _ _ _ _ _ g o).trans ?_
  simp only [RefAt.pooled_at, RefAt.number_at]

/-- Both predictions are one real number. -/
theorem preds_real (c : Dev nD) (h : Good m c) (g : Fin 1024) (o : Fin 2) :
    ∃ r : ℝ, (Run.preds m c (ix2 g o) : EReal) = (r : EReal) ∧ (refPreds m c (ix2 g o) : EReal) = (r : EReal) := by
  choose x hx using h.x
  choose wh hwh using h.wh
  choose bh hbh using h.bh
  choose wo hwo using h.wo
  choose bo hbo using h.bo
  refine ⟨∑ j : Fin 64, max (Maths.hidden (fun i => KernelAt.belongs m c g i) x (wh j) + bh j) 0 * wo o j + bo o,
    ?_, ?_⟩
  · rw [KernelAt.preds_at]
    unfold KernelAt.product
    simp only [hx, hwh, hbh, hwo, hbo]
    simp only [Maths.hidden_ker (fun i => KernelAt.belongs m c g i)]
    exact Maths.output_real _ _ _ _
  · rw [refPreds_at]
    simp only [hx, hwh, hbh, hwo, hbo]
    simp only [Maths.hidden_ref (fun i => KernelAt.belongs m c g i)]
    exact Maths.output_real _ _ _ _

/-- The predictions. -/
theorem preds_eq (c : Dev nD) (h : Good m c) : Run.preds m c = refPreds m c := by
  funext q
  rw [eq_ix2 q]
  obtain ⟨r, h1, h2⟩ := preds_real m c h (q 0) (q 1)
  exact h1.trans h2.symm

/-- One graph's loss. -/
theorem loss_at (c : Dev nD) (h : Good m c) (g : Fin 1024) :
    Payload.loss (refPreds m c (ix2 g 0)) (refPreds m c (ix2 g 1)) (yA m c (ix1 g))
      = -(Reference.taken (Reference.logSoftmax (refPreds m c)) (yA m c) (ix2 g 0) : EReal) := by
  obtain ⟨p, -, hp⟩ := preds_real m c h g 0
  obtain ⟨q, -, hq⟩ := preds_real m c h g 1
  rw [RefAt.taken_at _ _ g (h.y g)]
  unfold Payload.loss
  simp only [RefAt.logSoftmax_at]
  rw [hp, hq]
  split_ifs
  · exact Maths.loss_eq p q p
  · exact Maths.loss_eq p q q

/-- The loss. -/
theorem target_eq (c : Dev nD) (h : Good m c) :
    shapeCast S_ (Run.target m c) shapeCasts_S1x1_S_ = refTarget m c := by
  funext q
  rw [show q = ix0 from funext fun a => a.elim0]
  have e : (shapeCast S_ (Run.target m c) shapeCasts_S1x1_S_ ix0 : EReal) = Run.target m c (ix2 0 0) := by
    generalize Run.target m c = T
    pointwise
  refine e.trans ?_
  rw [KernelAt.target_at, preds_eq m c h]
  unfold refTarget Reference.target
  refine Eq.trans ?_ (RefAt.meanNeg_at _).symm
  simp only [loss_at m c h]

end Cert.Proof.Equation

end
-- ==== Proof.Algebraic.lean ====
module

public import proofs.«01_k».proof.Defs
public import proofs.«01_k».proof.Proof.Equation
public import proofs.«01_k».proof.Proof.Gen.Pre_finite_with_labels

/-! # The value claim

The kernel's run and the reference's, from equal arguments that meet the precondition, end with equal results. -/

@[expose] public section

set_option maxRecDepth 16384

noncomputable section

namespace Cert.Proof.Algebraic

open Idealize.ShloMosaic Idealize.ShloMosaic.TcCoe Idealize.SL.Sem
open Cert.Proof

/-- The precondition on device `c`: real floats, and labels 0 or 1. -/
theorem good (m : (ℓ : Loc Cert.KernelIdeal.nD Cert.KernelIdeal.τ Cert.KernelIdeal.sig) → Buf (Elt Ideal) ℓ)
    (h : Cert.Pre_KernelIdeal_finite_with_labels (hPre_finite_with_labels := Cert.Pre_finite_with_labels.Gen.facts) m)
    (c : Dev Cert.KernelIdeal.nD) : Equation.Good m c := by
  obtain ⟨hx, hy, hwh, hbh, hwo, hbo⟩ := h c
  exact
    { x := Finite.x_real _ _ _ _ _ _ _ hx
      y := Finite.y_label _ _ _ _ _ _ _ hy
      wh := Finite.wh_real _ _ _ _ _ _ _ hwh
      bh := Finite.bh_real _ _ _ _ _ _ _ hbh
      wo := Finite.wo_real _ _ _ _ _ _ _ hwo
      bo := Finite.bo_real _ _ _ _ _ _ _ hbo }

/-- Both results of the kernel are the reference's. -/
theorem claim : Cert.algebraic_KernelIdeal_ReferenceIdeal_pre_finite_with_labels
    (hKernelIdeal := Cert.KernelIdeal.Gen.facts) (hReferenceIdeal := Cert.ReferenceIdeal.Gen.facts)
    (hPre_finite_with_labels := Cert.Pre_finite_with_labels.Gen.facts) := by
  intro m ρ m' ρ' hpre hargs
  refine ⟨fun c => Equation.refTarget m c, fun c => Equation.refPreds m c, ?_, ?_⟩
  · refine (θ_run _ _ _).mono (fun r h c => ?_) (Run.run (F := Ideal) m ρ)
    obtain ⟨h0, h1, hk⟩ := h c
    exact ⟨h0.trans (Equation.target_eq m c (good m hpre c)), h1.trans (Equation.preds_eq m c (good m hpre c)), hk⟩
  · refine (θ_run _ _ _).mono (fun r h c => ?_) (Reference.run (F := Ideal) m' ρ')
    obtain ⟨h0, h1, hk⟩ := h c
    obtain ⟨e0, e1, e2, e3, e4, e5, e6⟩ := hargs c
    refine ⟨h0.trans ?_, h1.trans ?_, hk⟩
    · rw [e0, e1, e2, e3, e4, e5, e6]
      rfl
    · rw [e0, e1, e3, e4, e5, e6]
      rfl

end Cert.Proof.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import proofs.«01_k».proof.Proof.Gen.Pre_finite_with_labels
public import Idealize.ShloMosaic.Adequacy
public import Idealize.ShloMosaic.Init

@[expose] public section

noncomputable section

namespace Cert.Proof

open Idealize.ShloMosaic Idealize.SL.Sem Cert.Kernel

/-- The frames of the three programs, the kept arguments, and the two results. -/
theorem claim : Cert.Claim :=
  ⟨Cert.Kernel.Gen.facts, Cert.KernelIdeal.Gen.facts, Cert.ReferenceIdeal.Gen.facts,
    Cert.Pre_finite_with_labels.Gen.facts,
    Frames.kernel, Frames.kernelIdeal, fun m ρ _ => Frames.kernelIdeal m ρ trivial,
    Frames.referenceIdeal, fun m ρ _ => Frames.referenceIdeal m ρ trivial, trivial,
    Algebraic.claim⟩

end Cert.Proof

end
